-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 512]⟩ ⟨2, ![2048, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 1024]⟩ ⟨2, ![512, 32768]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 1024]⟩ ⟨2, ![512, 32768]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 1024]⟩ ⟨2, ![512, 32768]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 512]⟩ ⟨2, ![32768, 512]⟩ 0 32 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![1024, 512]⟩ ⟨2, ![32768, 512]⟩ 0 32 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![1024, 512]⟩ ⟨2, ![32768, 512]⟩ 0 32 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v17) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x512 : Shape := ⟨2, ![64, 512]⟩
abbrev S512x1024 : Shape := ⟨2, ![512, 1024]⟩
abbrev S1024x512 : Shape := ⟨2, ![1024, 512]⟩
abbrev S2048x512 : Shape := ⟨2, ![2048, 512]⟩
abbrev S32x64x512 : Shape := ⟨3, ![32, 64, 512]⟩
abbrev S31 : Shape := ⟨1, ![31]⟩
abbrev S_ : Shape := ⟨0, ![]⟩
abbrev S1x64x512 : Shape := ⟨3, ![1, 64, 512]⟩
abbrev S1 : Shape := ⟨1, ![1]⟩
abbrev S2048x1024 : Shape := ⟨2, ![2048, 1024]⟩

abbrev nBuf : Space → Nat
  | .hbm => 8
  | .vmem => 12
  | .smem => 0
  | _ => 0

abbrev bufTy : (tb : Table) → Fin (tcTables nBuf tb) → BufTy
  | .hbm, ⟨0, _⟩ => ⟨S64x512, .bf16⟩
  | .hbm, ⟨1, _⟩ => ⟨S512x1024, .bf16⟩
  | .hbm, ⟨2, _⟩ => ⟨S512x1024, .bf16⟩
  | .hbm, ⟨3, _⟩ => ⟨S512x1024, .bf16⟩
  | .hbm, ⟨4, _⟩ => ⟨S1024x512, .bf16⟩
  | .hbm, ⟨5, _⟩ => ⟨S1024x512, .bf16⟩
  | .hbm, ⟨6, _⟩ => ⟨S1024x512, .bf16⟩
  | .hbm, ⟨7, _⟩ => ⟨S2048x512, .bf16⟩
  | .local _ .vmem, ⟨0, _⟩ => ⟨S64x512, .bf16⟩
  | .local _ .vmem, ⟨1, _⟩ => ⟨S512x1024, .bf16⟩
  | .local _ .vmem, ⟨2, _⟩ => ⟨S1024x512, .bf16⟩
  | .local _ .vmem, ⟨3, _⟩ => ⟨S512x1024, .bf16⟩
  | .local _ .vmem, ⟨4, _⟩ => ⟨S1024x512, .bf16⟩
  | .local _ .vmem, ⟨5, _⟩ => ⟨S512x1024, .bf16⟩
  | .local _ .vmem, ⟨6, _⟩ => ⟨S1024x512, .bf16⟩
  | .local _ .vmem, ⟨7, _⟩ => ⟨S2048x512, .bf16⟩
  | .local _ .vmem, ⟨8, _⟩ => ⟨S32x64x512, .bf16⟩
  | .local _ .vmem, ⟨9, _⟩ => ⟨S32x64x512, .f32⟩
  | .local _ .vmem, ⟨10, _⟩ => ⟨S32x64x512, .bf16⟩
  | .local _ .vmem, ⟨11, _⟩ => ⟨S32x64x512, .bf16⟩
  | _, _ => ⟨S64x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 2 → Bool
  | ⟨0, _⟩ => false
  | ⟨1, _⟩ => true
  | _ => false

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  (ofTc nBuf bufTy 2 41 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v10 : BitVec 32 := Scalar.xori v2 c3_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v13 : BitVec 32 := Scalar.xori v2 c4_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v16 : BitVec 32 := Scalar.xori v2 c5_i32
  let c1_i32_13 : BitVec 32 := 1#32
  let v17 : BitVec 32 := Scalar.muli v16 c1_i32_13
  let v18 : BitVec 32 := Scalar.addi c0_i32_14 v17
  v18.toNat
def k0_dev6 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v19 : BitVec 32 := Scalar.xori v2 c6_i32
  let c1_i32_16 : BitVec 32 := 1#32
  let v20 : BitVec 32 := Scalar.muli v19 c1_i32_16
  let v21 : BitVec 32 := Scalar.addi c0_i32_17 v20
  v21.toNat
def k0_dev7 (d0 : Dev nD) : Nat :=
  let c0_i32_20 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v22 : BitVec 32 := Scalar.xori v2 c7_i32
  let c1_i32_19 : BitVec 32 := 1#32
  let v23 : BitVec 32 := Scalar.muli v22 c1_i32_19
  let v24 : BitVec 32 := Scalar.addi c0_i32_20 v23
  v24.toNat
def k0_dev8 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v25 : BitVec 32 := Scalar.xori v2 c8_i32
  let c1_i32_22 : BitVec 32 := 1#32
  let v26 : BitVec 32 := Scalar.muli v25 c1_i32_22
  let v27 : BitVec 32 := Scalar.addi c0_i32_23 v26
  v27.toNat
def k0_dev9 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v28 : BitVec 32 := Scalar.xori v2 c9_i32
  let c1_i32_25 : BitVec 32 := 1#32
  let v29 : BitVec 32 := Scalar.muli v28 c1_i32_25
  let v30 : BitVec 32 := Scalar.addi c0_i32_26 v29
  v30.toNat
def k0_dev10 (d0 : Dev nD) : Nat :=
  let c0_i32_29 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v31 : BitVec 32 := Scalar.xori v2 c10_i32
  let c1_i32_28 : BitVec 32 := 1#32
  let v32 : BitVec 32 := Scalar.muli v31 c1_i32_28
  let v33 : BitVec 32 := Scalar.addi c0_i32_29 v32
  v33.toNat
def k0_dev11 (d0 : Dev nD) : Nat :=
  let c0_i32_32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v34 : BitVec 32 := Scalar.xori v2 c11_i32
  let c1_i32_31 : BitVec 32 := 1#32
  let v35 : BitVec 32 := Scalar.muli v34 c1_i32_31
  let v36 : BitVec 32 := Scalar.addi c0_i32_32 v35
  v36.toNat
def k0_dev12 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v37 : BitVec 32 := Scalar.xori v2 c12_i32
  let c1_i32_34 : BitVec 32 := 1#32
  let v38 : BitVec 32 := Scalar.muli v37 c1_i32_34
  let v39 : BitVec 32 := Scalar.addi c0_i32_35 v38
  v39.toNat
def k0_dev13 (d0 : Dev nD) : Nat :=
  let c0_i32_38 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v40 : BitVec 32 := Scalar.xori v2 c13_i32
  let c1_i32_37 : BitVec 32 := 1#32
  let v41 : BitVec 32 := Scalar.muli v40 c1_i32_37
  let v42 : BitVec 32 := Scalar.addi c0_i32_38 v41
  v42.toNat
def k0_dev14 (d0 : Dev nD) : Nat :=
  let c0_i32_41 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v43 : BitVec 32 := Scalar.xori v2 c14_i32
  let c1_i32_40 : BitVec 32 := 1#32
  let v44 : BitVec 32 := Scalar.muli v43 c1_i32_40
  let v45 : BitVec 32 := Scalar.addi c0_i32_41 v44
  v45.toNat
def k0_dev15 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v46 : BitVec 32 := Scalar.xori v2 c15_i32
  let c1_i32_43 : BitVec 32 := 1#32
  let v47 : BitVec 32 := Scalar.muli v46 c1_i32_43
  let v48 : BitVec 32 := Scalar.addi c0_i32_44 v47
  v48.toNat
def k0_dev16 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v49 : BitVec 32 := Scalar.xori v2 c16_i32
  let c1_i32_46 : BitVec 32 := 1#32
  let v50 : BitVec 32 := Scalar.muli v49 c1_i32_46
  let v51 : BitVec 32 := Scalar.addi c0_i32_47 v50
  v51.toNat
def k0_dev17 (d0 : Dev nD) : Nat :=
  let c0_i32_50 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v52 : BitVec 32 := Scalar.xori v2 c17_i32
  let c1_i32_49 : BitVec 32 := 1#32
  let v53 : BitVec 32 := Scalar.muli v52 c1_i32_49
  let v54 : BitVec 32 := Scalar.addi c0_i32_50 v53
  v54.toNat
def k0_dev18 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v55 : BitVec 32 := Scalar.xori v2 c18_i32
  let c1_i32_52 : BitVec 32 := 1#32
  let v56 : BitVec 32 := Scalar.muli v55 c1_i32_52
  let v57 : BitVec 32 := Scalar.addi c0_i32_53 v56
  v57.toNat
def k0_dev19 (d0 : Dev nD) : Nat :=
  let c0_i32_56 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v58 : BitVec 32 := Scalar.xori v2 c19_i32
  let c1_i32_55 : BitVec 32 := 1#32
  let v59 : BitVec 32 := Scalar.muli v58 c1_i32_55
  let v60 : BitVec 32 := Scalar.addi c0_i32_56 v59
  v60.toNat
def k0_dev20 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v61 : BitVec 32 := Scalar.xori v2 c20_i32
  let c1_i32_58 : BitVec 32 := 1#32
  let v62 : BitVec 32 := Scalar.muli v61 c1_i32_58
  let v63 : BitVec 32 := Scalar.addi c0_i32_59 v62
  v63.toNat
def k0_dev21 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v64 : BitVec 32 := Scalar.xori v2 c21_i32
  let c1_i32_61 : BitVec 32 := 1#32
  let v65 : BitVec 32 := Scalar.muli v64 c1_i32_61
  let v66 : BitVec 32 := Scalar.addi c0_i32_62 v65
  v66.toNat
def k0_dev22 (d0 : Dev nD) : Nat :=
  let c0_i32_65 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v67 : BitVec 32 := Scalar.xori v2 c22_i32
  let c1_i32_64 : BitVec 32 := 1#32
  let v68 : BitVec 32 := Scalar.muli v67 c1_i32_64
  let v69 : BitVec 32 := Scalar.addi c0_i32_65 v68
  v69.toNat
def k0_dev23 (d0 : Dev nD) : Nat :=
  let c0_i32_68 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v70 : BitVec 32 := Scalar.xori v2 c23_i32
  let c1_i32_67 : BitVec 32 := 1#32
  let v71 : BitVec 32 := Scalar.muli v70 c1_i32_67
  let v72 : BitVec 32 := Scalar.addi c0_i32_68 v71
  v72.toNat
def k0_dev24 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v73 : BitVec 32 := Scalar.xori v2 c24_i32
  let c1_i32_70 : BitVec 32 := 1#32
  let v74 : BitVec 32 := Scalar.muli v73 c1_i32_70
  let v75 : BitVec 32 := Scalar.addi c0_i32_71 v74
  v75.toNat
def k0_dev25 (d0 : Dev nD) : Nat :=
  let c0_i32_74 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v76 : BitVec 32 := Scalar.xori v2 c25_i32
  let c1_i32_73 : BitVec 32 := 1#32
  let v77 : BitVec 32 := Scalar.muli v76 c1_i32_73
  let v78 : BitVec 32 := Scalar.addi c0_i32_74 v77
  v78.toNat
def k0_dev26 (d0 : Dev nD) : Nat :=
  let c0_i32_77 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v79 : BitVec 32 := Scalar.xori v2 c26_i32
  let c1_i32_76 : BitVec 32 := 1#32
  let v80 : BitVec 32 := Scalar.muli v79 c1_i32_76
  let v81 : BitVec 32 := Scalar.addi c0_i32_77 v80
  v81.toNat
def k0_dev27 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v82 : BitVec 32 := Scalar.xori v2 c27_i32
  let c1_i32_79 : BitVec 32 := 1#32
  let v83 : BitVec 32 := Scalar.muli v82 c1_i32_79
  let v84 : BitVec 32 := Scalar.addi c0_i32_80 v83
  v84.toNat
def k0_dev28 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v85 : BitVec 32 := Scalar.xori v2 c28_i32
  let c1_i32_82 : BitVec 32 := 1#32
  let v86 : BitVec 32 := Scalar.muli v85 c1_i32_82
  let v87 : BitVec 32 := Scalar.addi c0_i32_83 v86
  v87.toNat
def k0_dev29 (d0 : Dev nD) : Nat :=
  let c0_i32_86 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v88 : BitVec 32 := Scalar.xori v2 c29_i32
  let c1_i32_85 : BitVec 32 := 1#32
  let v89 : BitVec 32 := Scalar.muli v88 c1_i32_85
  let v90 : BitVec 32 := Scalar.addi c0_i32_86 v89
  v90.toNat
def k0_dev30 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v91 : BitVec 32 := Scalar.xori v2 c30_i32
  let c1_i32_88 : BitVec 32 := 1#32
  let v92 : BitVec 32 := Scalar.muli v91 c1_i32_88
  let v93 : BitVec 32 := Scalar.addi c0_i32_89 v92
  v93.toNat
def k0_dev31 (d0 : Dev nD) : Nat :=
  let c0_i32_92 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v94 : BitVec 32 := Scalar.xori v2 c31_i32
  let c1_i32_91 : BitVec 32 := 1#32
  let v95 : BitVec 32 := Scalar.muli v94 c1_i32_91
  let v96 : BitVec 32 := Scalar.addi c0_i32_92 v95
  v96.toNat
def k0_off1 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v98 : Index := Scalar.indexCast v2
  let c0 : Index := 0#32
  let c0_94 : Index := 0#32
  ![v98.toNat, 0, 0]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_103 : BitVec 32 := 0#32
  let c0_i32_104 : BitVec 32 := 0#32
  ![v2.toNat, 0, 0]
def k0_dev32 (d0 : Dev nD) : Nat :=
  let c0_i32_102 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_99 : BitVec 32 := 31#32
  let v108 : BitVec 32 := Scalar.xori v2 c31_i32_99
  let c1_i32_101 : BitVec 32 := 1#32
  let v109 : BitVec 32 := Scalar.muli v108 c1_i32_101
  let v110 : BitVec 32 := Scalar.addi c0_i32_102 v109
  v110.toNat
def k0_dev33 (d0 : Dev nD) : Nat :=
  let c0_i32_110 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_107 : BitVec 32 := 23#32
  let v117 : BitVec 32 := Scalar.xori v2 c23_i32_107
  let c1_i32_109 : BitVec 32 := 1#32
  let v118 : BitVec 32 := Scalar.muli v117 c1_i32_109
  let v119 : BitVec 32 := Scalar.addi c0_i32_110 v118
  v119.toNat
def k0_dev34 (d0 : Dev nD) : Nat :=
  let c0_i32_118 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_115 : BitVec 32 := 30#32
  let v126 : BitVec 32 := Scalar.xori v2 c30_i32_115
  let c1_i32_117 : BitVec 32 := 1#32
  let v127 : BitVec 32 := Scalar.muli v126 c1_i32_117
  let v128 : BitVec 32 := Scalar.addi c0_i32_118 v127
  v128.toNat
def k0_dev35 (d0 : Dev nD) : Nat :=
  let c0_i32_126 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_123 : BitVec 32 := 15#32
  let v135 : BitVec 32 := Scalar.xori v2 c15_i32_123
  let c1_i32_125 : BitVec 32 := 1#32
  let v136 : BitVec 32 := Scalar.muli v135 c1_i32_125
  let v137 : BitVec 32 := Scalar.addi c0_i32_126 v136
  v137.toNat
def k0_dev36 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_131 : BitVec 32 := 22#32
  let v144 : BitVec 32 := Scalar.xori v2 c22_i32_131
  let c1_i32_133 : BitVec 32 := 1#32
  let v145 : BitVec 32 := Scalar.muli v144 c1_i32_133
  let v146 : BitVec 32 := Scalar.addi c0_i32_134 v145
  v146.toNat
def k0_dev37 (d0 : Dev nD) : Nat :=
  let c0_i32_142 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_139 : BitVec 32 := 27#32
  let v153 : BitVec 32 := Scalar.xori v2 c27_i32_139
  let c1_i32_141 : BitVec 32 := 1#32
  let v154 : BitVec 32 := Scalar.muli v153 c1_i32_141
  let v155 : BitVec 32 := Scalar.addi c0_i32_142 v154
  v155.toNat
def k0_dev38 (d0 : Dev nD) : Nat :=
  let c0_i32_150 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_147 : BitVec 32 := 29#32
  let v162 : BitVec 32 := Scalar.xori v2 c29_i32_147
  let c1_i32_149 : BitVec 32 := 1#32
  let v163 : BitVec 32 := Scalar.muli v162 c1_i32_149
  let v164 : BitVec 32 := Scalar.addi c0_i32_150 v163
  v164.toNat
def k0_dev39 (d0 : Dev nD) : Nat :=
  let c0_i32_158 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_155 : BitVec 32 := 7#32
  let v171 : BitVec 32 := Scalar.xori v2 c7_i32_155
  let c1_i32_157 : BitVec 32 := 1#32
  let v172 : BitVec 32 := Scalar.muli v171 c1_i32_157
  let v173 : BitVec 32 := Scalar.addi c0_i32_158 v172
  v173.toNat
def k0_dev40 (d0 : Dev nD) : Nat :=
  let c0_i32_166 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_163 : BitVec 32 := 14#32
  let v180 : BitVec 32 := Scalar.xori v2 c14_i32_163
  let c1_i32_165 : BitVec 32 := 1#32
  let v181 : BitVec 32 := Scalar.muli v180 c1_i32_165
  let v182 : BitVec 32 := Scalar.addi c0_i32_166 v181
  v182.toNat
def k0_dev41 (d0 : Dev nD) : Nat :=
  let c0_i32_174 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_171 : BitVec 32 := 19#32
  let v189 : BitVec 32 := Scalar.xori v2 c19_i32_171
  let c1_i32_173 : BitVec 32 := 1#32
  let v190 : BitVec 32 := Scalar.muli v189 c1_i32_173
  let v191 : BitVec 32 := Scalar.addi c0_i32_174 v190
  v191.toNat
def k0_dev42 (d0 : Dev nD) : Nat :=
  let c0_i32_182 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_179 : BitVec 32 := 21#32
  let v198 : BitVec 32 := Scalar.xori v2 c21_i32_179
  let c1_i32_181 : BitVec 32 := 1#32
  let v199 : BitVec 32 := Scalar.muli v198 c1_i32_181
  let v200 : BitVec 32 := Scalar.addi c0_i32_182 v199
  v200.toNat
def k0_dev43 (d0 : Dev nD) : Nat :=
  let c0_i32_190 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_187 : BitVec 32 := 26#32
  let v207 : BitVec 32 := Scalar.xori v2 c26_i32_187
  let c1_i32_189 : BitVec 32 := 1#32
  let v208 : BitVec 32 := Scalar.muli v207 c1_i32_189
  let v209 : BitVec 32 := Scalar.addi c0_i32_190 v208
  v209.toNat
def k0_dev44 (d0 : Dev nD) : Nat :=
  let c0_i32_198 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_195 : BitVec 32 := 28#32
  let v216 : BitVec 32 := Scalar.xori v2 c28_i32_195
  let c1_i32_197 : BitVec 32 := 1#32
  let v217 : BitVec 32 := Scalar.muli v216 c1_i32_197
  let v218 : BitVec 32 := Scalar.addi c0_i32_198 v217
  v218.toNat
def k0_dev45 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_203 : BitVec 32 := 6#32
  let v225 : BitVec 32 := Scalar.xori v2 c6_i32_203
  let c1_i32_205 : BitVec 32 := 1#32
  let v226 : BitVec 32 := Scalar.muli v225 c1_i32_205
  let v227 : BitVec 32 := Scalar.addi c0_i32_206 v226
  v227.toNat
def k0_dev46 (d0 : Dev nD) : Nat :=
  let c0_i32_214 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_211 : BitVec 32 := 11#32
  let v234 : BitVec 32 := Scalar.xori v2 c11_i32_211
  let c1_i32_213 : BitVec 32 := 1#32
  let v235 : BitVec 32 := Scalar.muli v234 c1_i32_213
  let v236 : BitVec 32 := Scalar.addi c0_i32_214 v235
  v236.toNat
def k0_dev47 (d0 : Dev nD) : Nat :=
  let c0_i32_222 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_219 : BitVec 32 := 13#32
  let v243 : BitVec 32 := Scalar.xori v2 c13_i32_219
  let c1_i32_221 : BitVec 32 := 1#32
  let v244 : BitVec 32 := Scalar.muli v243 c1_i32_221
  let v245 : BitVec 32 := Scalar.addi c0_i32_222 v244
  v245.toNat
def k0_dev48 (d0 : Dev nD) : Nat :=
  let c0_i32_230 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_227 : BitVec 32 := 18#32
  let v252 : BitVec 32 := Scalar.xori v2 c18_i32_227
  let c1_i32_229 : BitVec 32 := 1#32
  let v253 : BitVec 32 := Scalar.muli v252 c1_i32_229
  let v254 : BitVec 32 := Scalar.addi c0_i32_230 v253
  v254.toNat
def k0_dev49 (d0 : Dev nD) : Nat :=
  let c0_i32_238 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_235 : BitVec 32 := 20#32
  let v261 : BitVec 32 := Scalar.xori v2 c20_i32_235
  let c1_i32_237 : BitVec 32 := 1#32
  let v262 : BitVec 32 := Scalar.muli v261 c1_i32_237
  let v263 : BitVec 32 := Scalar.addi c0_i32_238 v262
  v263.toNat
def k0_dev50 (d0 : Dev nD) : Nat :=
  let c0_i32_246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_243 : BitVec 32 := 25#32
  let v270 : BitVec 32 := Scalar.xori v2 c25_i32_243
  let c1_i32_245 : BitVec 32 := 1#32
  let v271 : BitVec 32 := Scalar.muli v270 c1_i32_245
  let v272 : BitVec 32 := Scalar.addi c0_i32_246 v271
  v272.toNat
def k0_dev51 (d0 : Dev nD) : Nat :=
  let c0_i32_254 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_251 : BitVec 32 := 3#32
  let v279 : BitVec 32 := Scalar.xori v2 c3_i32_251
  let c1_i32_253 : BitVec 32 := 1#32
  let v280 : BitVec 32 := Scalar.muli v279 c1_i32_253
  let v281 : BitVec 32 := Scalar.addi c0_i32_254 v280
  v281.toNat
def k0_dev52 (d0 : Dev nD) : Nat :=
  let c0_i32_262 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_259 : BitVec 32 := 5#32
  let v288 : BitVec 32 := Scalar.xori v2 c5_i32_259
  let c1_i32_261 : BitVec 32 := 1#32
  let v289 : BitVec 32 := Scalar.muli v288 c1_i32_261
  let v290 : BitVec 32 := Scalar.addi c0_i32_262 v289
  v290.toNat
def k0_dev53 (d0 : Dev nD) : Nat :=
  let c0_i32_270 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_267 : BitVec 32 := 10#32
  let v297 : BitVec 32 := Scalar.xori v2 c10_i32_267
  let c1_i32_269 : BitVec 32 := 1#32
  let v298 : BitVec 32 := Scalar.muli v297 c1_i32_269
  let v299 : BitVec 32 := Scalar.addi c0_i32_270 v298
  v299.toNat
def k0_dev54 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_275 : BitVec 32 := 12#32
  let v306 : BitVec 32 := Scalar.xori v2 c12_i32_275
  let c1_i32_277 : BitVec 32 := 1#32
  let v307 : BitVec 32 := Scalar.muli v306 c1_i32_277
  let v308 : BitVec 32 := Scalar.addi c0_i32_278 v307
  v308.toNat
def k0_dev55 (d0 : Dev nD) : Nat :=
  let c0_i32_286 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_283 : BitVec 32 := 17#32
  let v315 : BitVec 32 := Scalar.xori v2 c17_i32_283
  let c1_i32_285 : BitVec 32 := 1#32
  let v316 : BitVec 32 := Scalar.muli v315 c1_i32_285
  let v317 : BitVec 32 := Scalar.addi c0_i32_286 v316
  v317.toNat
def k0_dev56 (d0 : Dev nD) : Nat :=
  let c0_i32_294 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_291 : BitVec 32 := 24#32
  let v324 : BitVec 32 := Scalar.xori v2 c24_i32_291
  let c1_i32_293 : BitVec 32 := 1#32
  let v325 : BitVec 32 := Scalar.muli v324 c1_i32_293
  let v326 : BitVec 32 := Scalar.addi c0_i32_294 v325
  v326.toNat
def k0_dev57 (d0 : Dev nD) : Nat :=
  let c0_i32_302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_299 : BitVec 32 := 2#32
  let v333 : BitVec 32 := Scalar.xori v2 c2_i32_299
  let c1_i32_301 : BitVec 32 := 1#32
  let v334 : BitVec 32 := Scalar.muli v333 c1_i32_301
  let v335 : BitVec 32 := Scalar.addi c0_i32_302 v334
  v335.toNat
def k0_dev58 (d0 : Dev nD) : Nat :=
  let c0_i32_310 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_307 : BitVec 32 := 4#32
  let v342 : BitVec 32 := Scalar.xori v2 c4_i32_307
  let c1_i32_309 : BitVec 32 := 1#32
  let v343 : BitVec 32 := Scalar.muli v342 c1_i32_309
  let v344 : BitVec 32 := Scalar.addi c0_i32_310 v343
  v344.toNat
def k0_dev59 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_315 : BitVec 32 := 9#32
  let v351 : BitVec 32 := Scalar.xori v2 c9_i32_315
  let c1_i32_317 : BitVec 32 := 1#32
  let v352 : BitVec 32 := Scalar.muli v351 c1_i32_317
  let v353 : BitVec 32 := Scalar.addi c0_i32_318 v352
  v353.toNat
def k0_dev60 (d0 : Dev nD) : Nat :=
  let c0_i32_326 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_323 : BitVec 32 := 16#32
  let v360 : BitVec 32 := Scalar.xori v2 c16_i32_323
  let c1_i32_325 : BitVec 32 := 1#32
  let v361 : BitVec 32 := Scalar.muli v360 c1_i32_325
  let v362 : BitVec 32 := Scalar.addi c0_i32_326 v361
  v362.toNat
def k0_dev61 (d0 : Dev nD) : Nat :=
  let c0_i32_334 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_331 : BitVec 32 := 1#32
  let v369 : BitVec 32 := Scalar.xori v2 c1_i32_331
  let c1_i32_333 : BitVec 32 := 1#32
  let v370 : BitVec 32 := Scalar.muli v369 c1_i32_333
  let v371 : BitVec 32 := Scalar.addi c0_i32_334 v370
  v371.toNat
def k0_dev62 (d0 : Dev nD) : Nat :=
  let c0_i32_342 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_339 : BitVec 32 := 8#32
  let v378 : BitVec 32 := Scalar.xori v2 c8_i32_339
  let c1_i32_341 : BitVec 32 := 1#32
  let v379 : BitVec 32 := Scalar.muli v378 c1_i32_341
  let v380 : BitVec 32 := Scalar.addi c0_i32_342 v379
  v380.toNat
def k0_off3 (d0 : Dev nD) (c31_i32_766 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v778 : BitVec 32 := Scalar.xori v2 c31_i32_766
  let c0_i32_772 : BitVec 32 := 0#32
  let c0_i32_773 : BitVec 32 := 0#32
  ![v778.toNat, 0, 0]
def k0_dev63 (d0 : Dev nD) : Nat :=
  let c0_i32_769 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_766 : BitVec 32 := 31#32
  let v778 : BitVec 32 := Scalar.xori v2 c31_i32_766
  let c1_i32_768 : BitVec 32 := 1#32
  let v779 : BitVec 32 := Scalar.muli v778 c1_i32_768
  let v780 : BitVec 32 := Scalar.addi c0_i32_769 v779
  v780.toNat
def k0_dev64 (d0 : Dev nD) : Nat :=
  let c0_i32_777 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_774 : BitVec 32 := 23#32
  let v787 : BitVec 32 := Scalar.xori v2 c23_i32_774
  let c1_i32_776 : BitVec 32 := 1#32
  let v788 : BitVec 32 := Scalar.muli v787 c1_i32_776
  let v789 : BitVec 32 := Scalar.addi c0_i32_777 v788
  v789.toNat
def k0_dev65 (d0 : Dev nD) : Nat :=
  let c0_i32_785 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_782 : BitVec 32 := 30#32
  let v796 : BitVec 32 := Scalar.xori v2 c30_i32_782
  let c1_i32_784 : BitVec 32 := 1#32
  let v797 : BitVec 32 := Scalar.muli v796 c1_i32_784
  let v798 : BitVec 32 := Scalar.addi c0_i32_785 v797
  v798.toNat
def k0_dev66 (d0 : Dev nD) : Nat :=
  let c0_i32_793 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_790 : BitVec 32 := 15#32
  let v805 : BitVec 32 := Scalar.xori v2 c15_i32_790
  let c1_i32_792 : BitVec 32 := 1#32
  let v806 : BitVec 32 := Scalar.muli v805 c1_i32_792
  let v807 : BitVec 32 := Scalar.addi c0_i32_793 v806
  v807.toNat
def k0_dev67 (d0 : Dev nD) : Nat :=
  let c0_i32_801 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_798 : BitVec 32 := 22#32
  let v814 : BitVec 32 := Scalar.xori v2 c22_i32_798
  let c1_i32_800 : BitVec 32 := 1#32
  let v815 : BitVec 32 := Scalar.muli v814 c1_i32_800
  let v816 : BitVec 32 := Scalar.addi c0_i32_801 v815
  v816.toNat
def k0_dev68 (d0 : Dev nD) : Nat :=
  let c0_i32_809 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_806 : BitVec 32 := 27#32
  let v823 : BitVec 32 := Scalar.xori v2 c27_i32_806
  let c1_i32_808 : BitVec 32 := 1#32
  let v824 : BitVec 32 := Scalar.muli v823 c1_i32_808
  let v825 : BitVec 32 := Scalar.addi c0_i32_809 v824
  v825.toNat
def k0_dev69 (d0 : Dev nD) : Nat :=
  let c0_i32_817 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_814 : BitVec 32 := 29#32
  let v832 : BitVec 32 := Scalar.xori v2 c29_i32_814
  let c1_i32_816 : BitVec 32 := 1#32
  let v833 : BitVec 32 := Scalar.muli v832 c1_i32_816
  let v834 : BitVec 32 := Scalar.addi c0_i32_817 v833
  v834.toNat
def k0_dev70 (d0 : Dev nD) : Nat :=
  let c0_i32_825 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_822 : BitVec 32 := 7#32
  let v841 : BitVec 32 := Scalar.xori v2 c7_i32_822
  let c1_i32_824 : BitVec 32 := 1#32
  let v842 : BitVec 32 := Scalar.muli v841 c1_i32_824
  let v843 : BitVec 32 := Scalar.addi c0_i32_825 v842
  v843.toNat
def k0_dev71 (d0 : Dev nD) : Nat :=
  let c0_i32_833 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_830 : BitVec 32 := 14#32
  let v850 : BitVec 32 := Scalar.xori v2 c14_i32_830
  let c1_i32_832 : BitVec 32 := 1#32
  let v851 : BitVec 32 := Scalar.muli v850 c1_i32_832
  let v852 : BitVec 32 := Scalar.addi c0_i32_833 v851
  v852.toNat
def k0_dev72 (d0 : Dev nD) : Nat :=
  let c0_i32_841 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_838 : BitVec 32 := 19#32
  let v859 : BitVec 32 := Scalar.xori v2 c19_i32_838
  let c1_i32_840 : BitVec 32 := 1#32
  let v860 : BitVec 32 := Scalar.muli v859 c1_i32_840
  let v861 : BitVec 32 := Scalar.addi c0_i32_841 v860
  v861.toNat
def k0_dev73 (d0 : Dev nD) : Nat :=
  let c0_i32_849 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_846 : BitVec 32 := 21#32
  let v868 : BitVec 32 := Scalar.xori v2 c21_i32_846
  let c1_i32_848 : BitVec 32 := 1#32
  let v869 : BitVec 32 := Scalar.muli v868 c1_i32_848
  let v870 : BitVec 32 := Scalar.addi c0_i32_849 v869
  v870.toNat
def k0_dev74 (d0 : Dev nD) : Nat :=
  let c0_i32_857 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_854 : BitVec 32 := 26#32
  let v877 : BitVec 32 := Scalar.xori v2 c26_i32_854
  let c1_i32_856 : BitVec 32 := 1#32
  let v878 : BitVec 32 := Scalar.muli v877 c1_i32_856
  let v879 : BitVec 32 := Scalar.addi c0_i32_857 v878
  v879.toNat
def k0_dev75 (d0 : Dev nD) : Nat :=
  let c0_i32_865 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_862 : BitVec 32 := 28#32
  let v886 : BitVec 32 := Scalar.xori v2 c28_i32_862
  let c1_i32_864 : BitVec 32 := 1#32
  let v887 : BitVec 32 := Scalar.muli v886 c1_i32_864
  let v888 : BitVec 32 := Scalar.addi c0_i32_865 v887
  v888.toNat
def k0_dev76 (d0 : Dev nD) : Nat :=
  let c0_i32_873 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_870 : BitVec 32 := 6#32
  let v895 : BitVec 32 := Scalar.xori v2 c6_i32_870
  let c1_i32_872 : BitVec 32 := 1#32
  let v896 : BitVec 32 := Scalar.muli v895 c1_i32_872
  let v897 : BitVec 32 := Scalar.addi c0_i32_873 v896
  v897.toNat
def k0_dev77 (d0 : Dev nD) : Nat :=
  let c0_i32_881 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_878 : BitVec 32 := 11#32
  let v904 : BitVec 32 := Scalar.xori v2 c11_i32_878
  let c1_i32_880 : BitVec 32 := 1#32
  let v905 : BitVec 32 := Scalar.muli v904 c1_i32_880
  let v906 : BitVec 32 := Scalar.addi c0_i32_881 v905
  v906.toNat
def k0_dev78 (d0 : Dev nD) : Nat :=
  let c0_i32_889 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_886 : BitVec 32 := 13#32
  let v913 : BitVec 32 := Scalar.xori v2 c13_i32_886
  let c1_i32_888 : BitVec 32 := 1#32
  let v914 : BitVec 32 := Scalar.muli v913 c1_i32_888
  let v915 : BitVec 32 := Scalar.addi c0_i32_889 v914
  v915.toNat
def k0_dev79 (d0 : Dev nD) : Nat :=
  let c0_i32_897 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_894 : BitVec 32 := 18#32
  let v922 : BitVec 32 := Scalar.xori v2 c18_i32_894
  let c1_i32_896 : BitVec 32 := 1#32
  let v923 : BitVec 32 := Scalar.muli v922 c1_i32_896
  let v924 : BitVec 32 := Scalar.addi c0_i32_897 v923
  v924.toNat
def k0_dev80 (d0 : Dev nD) : Nat :=
  let c0_i32_905 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_902 : BitVec 32 := 20#32
  let v931 : BitVec 32 := Scalar.xori v2 c20_i32_902
  let c1_i32_904 : BitVec 32 := 1#32
  let v932 : BitVec 32 := Scalar.muli v931 c1_i32_904
  let v933 : BitVec 32 := Scalar.addi c0_i32_905 v932
  v933.toNat
def k0_dev81 (d0 : Dev nD) : Nat :=
  let c0_i32_913 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_910 : BitVec 32 := 25#32
  let v940 : BitVec 32 := Scalar.xori v2 c25_i32_910
  let c1_i32_912 : BitVec 32 := 1#32
  let v941 : BitVec 32 := Scalar.muli v940 c1_i32_912
  let v942 : BitVec 32 := Scalar.addi c0_i32_913 v941
  v942.toNat
def k0_dev82 (d0 : Dev nD) : Nat :=
  let c0_i32_921 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_918 : BitVec 32 := 3#32
  let v949 : BitVec 32 := Scalar.xori v2 c3_i32_918
  let c1_i32_920 : BitVec 32 := 1#32
  let v950 : BitVec 32 := Scalar.muli v949 c1_i32_920
  let v951 : BitVec 32 := Scalar.addi c0_i32_921 v950
  v951.toNat
def k0_dev83 (d0 : Dev nD) : Nat :=
  let c0_i32_929 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_926 : BitVec 32 := 5#32
  let v958 : BitVec 32 := Scalar.xori v2 c5_i32_926
  let c1_i32_928 : BitVec 32 := 1#32
  let v959 : BitVec 32 := Scalar.muli v958 c1_i32_928
  let v960 : BitVec 32 := Scalar.addi c0_i32_929 v959
  v960.toNat
def k0_dev84 (d0 : Dev nD) : Nat :=
  let c0_i32_937 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_934 : BitVec 32 := 10#32
  let v967 : BitVec 32 := Scalar.xori v2 c10_i32_934
  let c1_i32_936 : BitVec 32 := 1#32
  let v968 : BitVec 32 := Scalar.muli v967 c1_i32_936
  let v969 : BitVec 32 := Scalar.addi c0_i32_937 v968
  v969.toNat
def k0_dev85 (d0 : Dev nD) : Nat :=
  let c0_i32_945 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_942 : BitVec 32 := 12#32
  let v976 : BitVec 32 := Scalar.xori v2 c12_i32_942
  let c1_i32_944 : BitVec 32 := 1#32
  let v977 : BitVec 32 := Scalar.muli v976 c1_i32_944
  let v978 : BitVec 32 := Scalar.addi c0_i32_945 v977
  v978.toNat
def k0_dev86 (d0 : Dev nD) : Nat :=
  let c0_i32_953 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_950 : BitVec 32 := 17#32
  let v985 : BitVec 32 := Scalar.xori v2 c17_i32_950
  let c1_i32_952 : BitVec 32 := 1#32
  let v986 : BitVec 32 := Scalar.muli v985 c1_i32_952
  let v987 : BitVec 32 := Scalar.addi c0_i32_953 v986
  v987.toNat
def k0_dev87 (d0 : Dev nD) : Nat :=
  let c0_i32_961 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_958 : BitVec 32 := 24#32
  let v994 : BitVec 32 := Scalar.xori v2 c24_i32_958
  let c1_i32_960 : BitVec 32 := 1#32
  let v995 : BitVec 32 := Scalar.muli v994 c1_i32_960
  let v996 : BitVec 32 := Scalar.addi c0_i32_961 v995
  v996.toNat
def k0_dev88 (d0 : Dev nD) : Nat :=
  let c0_i32_969 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_966 : BitVec 32 := 2#32
  let v1003 : BitVec 32 := Scalar.xori v2 c2_i32_966
  let c1_i32_968 : BitVec 32 := 1#32
  let v1004 : BitVec 32 := Scalar.muli v1003 c1_i32_968
  let v1005 : BitVec 32 := Scalar.addi c0_i32_969 v1004
  v1005.toNat
def k0_dev89 (d0 : Dev nD) : Nat :=
  let c0_i32_977 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_974 : BitVec 32 := 4#32
  let v1012 : BitVec 32 := Scalar.xori v2 c4_i32_974
  let c1_i32_976 : BitVec 32 := 1#32
  let v1013 : BitVec 32 := Scalar.muli v1012 c1_i32_976
  let v1014 : BitVec 32 := Scalar.addi c0_i32_977 v1013
  v1014.toNat
def k0_dev90 (d0 : Dev nD) : Nat :=
  let c0_i32_985 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_982 : BitVec 32 := 9#32
  let v1021 : BitVec 32 := Scalar.xori v2 c9_i32_982
  let c1_i32_984 : BitVec 32 := 1#32
  let v1022 : BitVec 32 := Scalar.muli v1021 c1_i32_984
  let v1023 : BitVec 32 := Scalar.addi c0_i32_985 v1022
  v1023.toNat
def k0_dev91 (d0 : Dev nD) : Nat :=
  let c0_i32_993 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_990 : BitVec 32 := 16#32
  let v1030 : BitVec 32 := Scalar.xori v2 c16_i32_990
  let c1_i32_992 : BitVec 32 := 1#32
  let v1031 : BitVec 32 := Scalar.muli v1030 c1_i32_992
  let v1032 : BitVec 32 := Scalar.addi c0_i32_993 v1031
  v1032.toNat
def k0_dev92 (d0 : Dev nD) : Nat :=
  let c0_i32_1001 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_998 : BitVec 32 := 1#32
  let v1039 : BitVec 32 := Scalar.xori v2 c1_i32_998
  let c1_i32_1000 : BitVec 32 := 1#32
  let v1040 : BitVec 32 := Scalar.muli v1039 c1_i32_1000
  let v1041 : BitVec 32 := Scalar.addi c0_i32_1001 v1040
  v1041.toNat
def k0_dev93 (d0 : Dev nD) : Nat :=
  let c0_i32_1009 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1006 : BitVec 32 := 8#32
  let v1048 : BitVec 32 := Scalar.xori v2 c8_i32_1006
  let c1_i32_1008 : BitVec 32 := 1#32
  let v1049 : BitVec 32 := Scalar.muli v1048 c1_i32_1008
  let v1050 : BitVec 32 := Scalar.addi c0_i32_1009 v1049
  v1050.toNat
def k0_dev94 (d0 : Dev nD) : Nat :=
  let c0_i32_1428 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1425 : BitVec 32 := 31#32
  let v1441 : BitVec 32 := Scalar.xori v2 c31_i32_1425
  let c1_i32_1427 : BitVec 32 := 1#32
  let v1442 : BitVec 32 := Scalar.muli v1441 c1_i32_1427
  let v1443 : BitVec 32 := Scalar.addi c0_i32_1428 v1442
  v1443.toNat
def k0_dev95 (d0 : Dev nD) : Nat :=
  let c0_i32_1436 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1433 : BitVec 32 := 23#32
  let v1450 : BitVec 32 := Scalar.xori v2 c23_i32_1433
  let c1_i32_1435 : BitVec 32 := 1#32
  let v1451 : BitVec 32 := Scalar.muli v1450 c1_i32_1435
  let v1452 : BitVec 32 := Scalar.addi c0_i32_1436 v1451
  v1452.toNat
def k0_dev96 (d0 : Dev nD) : Nat :=
  let c0_i32_1444 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1441 : BitVec 32 := 30#32
  let v1459 : BitVec 32 := Scalar.xori v2 c30_i32_1441
  let c1_i32_1443 : BitVec 32 := 1#32
  let v1460 : BitVec 32 := Scalar.muli v1459 c1_i32_1443
  let v1461 : BitVec 32 := Scalar.addi c0_i32_1444 v1460
  v1461.toNat
def k0_dev97 (d0 : Dev nD) : Nat :=
  let c0_i32_1452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1449 : BitVec 32 := 15#32
  let v1468 : BitVec 32 := Scalar.xori v2 c15_i32_1449
  let c1_i32_1451 : BitVec 32 := 1#32
  let v1469 : BitVec 32 := Scalar.muli v1468 c1_i32_1451
  let v1470 : BitVec 32 := Scalar.addi c0_i32_1452 v1469
  v1470.toNat
def k0_dev98 (d0 : Dev nD) : Nat :=
  let c0_i32_1460 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1457 : BitVec 32 := 22#32
  let v1477 : BitVec 32 := Scalar.xori v2 c22_i32_1457
  let c1_i32_1459 : BitVec 32 := 1#32
  let v1478 : BitVec 32 := Scalar.muli v1477 c1_i32_1459
  let v1479 : BitVec 32 := Scalar.addi c0_i32_1460 v1478
  v1479.toNat
def k0_dev99 (d0 : Dev nD) : Nat :=
  let c0_i32_1468 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1465 : BitVec 32 := 27#32
  let v1486 : BitVec 32 := Scalar.xori v2 c27_i32_1465
  let c1_i32_1467 : BitVec 32 := 1#32
  let v1487 : BitVec 32 := Scalar.muli v1486 c1_i32_1467
  let v1488 : BitVec 32 := Scalar.addi c0_i32_1468 v1487
  v1488.toNat
def k0_dev100 (d0 : Dev nD) : Nat :=
  let c0_i32_1476 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1473 : BitVec 32 := 29#32
  let v1495 : BitVec 32 := Scalar.xori v2 c29_i32_1473
  let c1_i32_1475 : BitVec 32 := 1#32
  let v1496 : BitVec 32 := Scalar.muli v1495 c1_i32_1475
  let v1497 : BitVec 32 := Scalar.addi c0_i32_1476 v1496
  v1497.toNat
def k0_dev101 (d0 : Dev nD) : Nat :=
  let c0_i32_1484 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1481 : BitVec 32 := 7#32
  let v1504 : BitVec 32 := Scalar.xori v2 c7_i32_1481
  let c1_i32_1483 : BitVec 32 := 1#32
  let v1505 : BitVec 32 := Scalar.muli v1504 c1_i32_1483
  let v1506 : BitVec 32 := Scalar.addi c0_i32_1484 v1505
  v1506.toNat
def k0_dev102 (d0 : Dev nD) : Nat :=
  let c0_i32_1492 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1489 : BitVec 32 := 14#32
  let v1513 : BitVec 32 := Scalar.xori v2 c14_i32_1489
  let c1_i32_1491 : BitVec 32 := 1#32
  let v1514 : BitVec 32 := Scalar.muli v1513 c1_i32_1491
  let v1515 : BitVec 32 := Scalar.addi c0_i32_1492 v1514
  v1515.toNat
def k0_dev103 (d0 : Dev nD) : Nat :=
  let c0_i32_1500 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1497 : BitVec 32 := 19#32
  let v1522 : BitVec 32 := Scalar.xori v2 c19_i32_1497
  let c1_i32_1499 : BitVec 32 := 1#32
  let v1523 : BitVec 32 := Scalar.muli v1522 c1_i32_1499
  let v1524 : BitVec 32 := Scalar.addi c0_i32_1500 v1523
  v1524.toNat
def k0_dev104 (d0 : Dev nD) : Nat :=
  let c0_i32_1508 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1505 : BitVec 32 := 21#32
  let v1531 : BitVec 32 := Scalar.xori v2 c21_i32_1505
  let c1_i32_1507 : BitVec 32 := 1#32
  let v1532 : BitVec 32 := Scalar.muli v1531 c1_i32_1507
  let v1533 : BitVec 32 := Scalar.addi c0_i32_1508 v1532
  v1533.toNat
def k0_dev105 (d0 : Dev nD) : Nat :=
  let c0_i32_1516 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1513 : BitVec 32 := 26#32
  let v1540 : BitVec 32 := Scalar.xori v2 c26_i32_1513
  let c1_i32_1515 : BitVec 32 := 1#32
  let v1541 : BitVec 32 := Scalar.muli v1540 c1_i32_1515
  let v1542 : BitVec 32 := Scalar.addi c0_i32_1516 v1541
  v1542.toNat
def k0_dev106 (d0 : Dev nD) : Nat :=
  let c0_i32_1524 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1521 : BitVec 32 := 28#32
  let v1549 : BitVec 32 := Scalar.xori v2 c28_i32_1521
  let c1_i32_1523 : BitVec 32 := 1#32
  let v1550 : BitVec 32 := Scalar.muli v1549 c1_i32_1523
  let v1551 : BitVec 32 := Scalar.addi c0_i32_1524 v1550
  v1551.toNat
def k0_dev107 (d0 : Dev nD) : Nat :=
  let c0_i32_1532 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1529 : BitVec 32 := 6#32
  let v1558 : BitVec 32 := Scalar.xori v2 c6_i32_1529
  let c1_i32_1531 : BitVec 32 := 1#32
  let v1559 : BitVec 32 := Scalar.muli v1558 c1_i32_1531
  let v1560 : BitVec 32 := Scalar.addi c0_i32_1532 v1559
  v1560.toNat
def k0_dev108 (d0 : Dev nD) : Nat :=
  let c0_i32_1540 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1537 : BitVec 32 := 11#32
  let v1567 : BitVec 32 := Scalar.xori v2 c11_i32_1537
  let c1_i32_1539 : BitVec 32 := 1#32
  let v1568 : BitVec 32 := Scalar.muli v1567 c1_i32_1539
  let v1569 : BitVec 32 := Scalar.addi c0_i32_1540 v1568
  v1569.toNat
def k0_dev109 (d0 : Dev nD) : Nat :=
  let c0_i32_1548 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1545 : BitVec 32 := 13#32
  let v1576 : BitVec 32 := Scalar.xori v2 c13_i32_1545
  let c1_i32_1547 : BitVec 32 := 1#32
  let v1577 : BitVec 32 := Scalar.muli v1576 c1_i32_1547
  let v1578 : BitVec 32 := Scalar.addi c0_i32_1548 v1577
  v1578.toNat
def k0_dev110 (d0 : Dev nD) : Nat :=
  let c0_i32_1556 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1553 : BitVec 32 := 18#32
  let v1585 : BitVec 32 := Scalar.xori v2 c18_i32_1553
  let c1_i32_1555 : BitVec 32 := 1#32
  let v1586 : BitVec 32 := Scalar.muli v1585 c1_i32_1555
  let v1587 : BitVec 32 := Scalar.addi c0_i32_1556 v1586
  v1587.toNat
def k0_dev111 (d0 : Dev nD) : Nat :=
  let c0_i32_1564 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1561 : BitVec 32 := 20#32
  let v1594 : BitVec 32 := Scalar.xori v2 c20_i32_1561
  let c1_i32_1563 : BitVec 32 := 1#32
  let v1595 : BitVec 32 := Scalar.muli v1594 c1_i32_1563
  let v1596 : BitVec 32 := Scalar.addi c0_i32_1564 v1595
  v1596.toNat
def k0_dev112 (d0 : Dev nD) : Nat :=
  let c0_i32_1572 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1569 : BitVec 32 := 25#32
  let v1603 : BitVec 32 := Scalar.xori v2 c25_i32_1569
  let c1_i32_1571 : BitVec 32 := 1#32
  let v1604 : BitVec 32 := Scalar.muli v1603 c1_i32_1571
  let v1605 : BitVec 32 := Scalar.addi c0_i32_1572 v1604
  v1605.toNat
def k0_dev113 (d0 : Dev nD) : Nat :=
  let c0_i32_1580 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1577 : BitVec 32 := 3#32
  let v1612 : BitVec 32 := Scalar.xori v2 c3_i32_1577
  let c1_i32_1579 : BitVec 32 := 1#32
  let v1613 : BitVec 32 := Scalar.muli v1612 c1_i32_1579
  let v1614 : BitVec 32 := Scalar.addi c0_i32_1580 v1613
  v1614.toNat
def k0_dev114 (d0 : Dev nD) : Nat :=
  let c0_i32_1588 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1585 : BitVec 32 := 5#32
  let v1621 : BitVec 32 := Scalar.xori v2 c5_i32_1585
  let c1_i32_1587 : BitVec 32 := 1#32
  let v1622 : BitVec 32 := Scalar.muli v1621 c1_i32_1587
  let v1623 : BitVec 32 := Scalar.addi c0_i32_1588 v1622
  v1623.toNat
def k0_dev115 (d0 : Dev nD) : Nat :=
  let c0_i32_1596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1593 : BitVec 32 := 10#32
  let v1630 : BitVec 32 := Scalar.xori v2 c10_i32_1593
  let c1_i32_1595 : BitVec 32 := 1#32
  let v1631 : BitVec 32 := Scalar.muli v1630 c1_i32_1595
  let v1632 : BitVec 32 := Scalar.addi c0_i32_1596 v1631
  v1632.toNat
def k0_dev116 (d0 : Dev nD) : Nat :=
  let c0_i32_1604 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1601 : BitVec 32 := 12#32
  let v1639 : BitVec 32 := Scalar.xori v2 c12_i32_1601
  let c1_i32_1603 : BitVec 32 := 1#32
  let v1640 : BitVec 32 := Scalar.muli v1639 c1_i32_1603
  let v1641 : BitVec 32 := Scalar.addi c0_i32_1604 v1640
  v1641.toNat
def k0_dev117 (d0 : Dev nD) : Nat :=
  let c0_i32_1612 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1609 : BitVec 32 := 17#32
  let v1648 : BitVec 32 := Scalar.xori v2 c17_i32_1609
  let c1_i32_1611 : BitVec 32 := 1#32
  let v1649 : BitVec 32 := Scalar.muli v1648 c1_i32_1611
  let v1650 : BitVec 32 := Scalar.addi c0_i32_1612 v1649
  v1650.toNat
def k0_dev118 (d0 : Dev nD) : Nat :=
  let c0_i32_1620 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1617 : BitVec 32 := 24#32
  let v1657 : BitVec 32 := Scalar.xori v2 c24_i32_1617
  let c1_i32_1619 : BitVec 32 := 1#32
  let v1658 : BitVec 32 := Scalar.muli v1657 c1_i32_1619
  let v1659 : BitVec 32 := Scalar.addi c0_i32_1620 v1658
  v1659.toNat
def k0_dev119 (d0 : Dev nD) : Nat :=
  let c0_i32_1628 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1625 : BitVec 32 := 2#32
  let v1666 : BitVec 32 := Scalar.xori v2 c2_i32_1625
  let c1_i32_1627 : BitVec 32 := 1#32
  let v1667 : BitVec 32 := Scalar.muli v1666 c1_i32_1627
  let v1668 : BitVec 32 := Scalar.addi c0_i32_1628 v1667
  v1668.toNat
def k0_dev120 (d0 : Dev nD) : Nat :=
  let c0_i32_1636 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1633 : BitVec 32 := 4#32
  let v1675 : BitVec 32 := Scalar.xori v2 c4_i32_1633
  let c1_i32_1635 : BitVec 32 := 1#32
  let v1676 : BitVec 32 := Scalar.muli v1675 c1_i32_1635
  let v1677 : BitVec 32 := Scalar.addi c0_i32_1636 v1676
  v1677.toNat
def k0_dev121 (d0 : Dev nD) : Nat :=
  let c0_i32_1644 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1641 : BitVec 32 := 9#32
  let v1684 : BitVec 32 := Scalar.xori v2 c9_i32_1641
  let c1_i32_1643 : BitVec 32 := 1#32
  let v1685 : BitVec 32 := Scalar.muli v1684 c1_i32_1643
  let v1686 : BitVec 32 := Scalar.addi c0_i32_1644 v1685
  v1686.toNat
def k0_dev122 (d0 : Dev nD) : Nat :=
  let c0_i32_1652 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1649 : BitVec 32 := 16#32
  let v1693 : BitVec 32 := Scalar.xori v2 c16_i32_1649
  let c1_i32_1651 : BitVec 32 := 1#32
  let v1694 : BitVec 32 := Scalar.muli v1693 c1_i32_1651
  let v1695 : BitVec 32 := Scalar.addi c0_i32_1652 v1694
  v1695.toNat
def k0_dev123 (d0 : Dev nD) : Nat :=
  let c0_i32_1660 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1657 : BitVec 32 := 1#32
  let v1702 : BitVec 32 := Scalar.xori v2 c1_i32_1657
  let c1_i32_1659 : BitVec 32 := 1#32
  let v1703 : BitVec 32 := Scalar.muli v1702 c1_i32_1659
  let v1704 : BitVec 32 := Scalar.addi c0_i32_1660 v1703
  v1704.toNat
def k0_dev124 (d0 : Dev nD) : Nat :=
  let c0_i32_1668 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1665 : BitVec 32 := 8#32
  let v1711 : BitVec 32 := Scalar.xori v2 c8_i32_1665
  let c1_i32_1667 : BitVec 32 := 1#32
  let v1712 : BitVec 32 := Scalar.muli v1711 c1_i32_1667
  let v1713 : BitVec 32 := Scalar.addi c0_i32_1668 v1712
  v1713.toNat
def k0_dev125 (d0 : Dev nD) : Nat :=
  let c0_i32_2095 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_2092 : BitVec 32 := 31#32
  let v2111 : BitVec 32 := Scalar.xori v2 c31_i32_2092
  let c1_i32_2094 : BitVec 32 := 1#32
  let v2112 : BitVec 32 := Scalar.muli v2111 c1_i32_2094
  let v2113 : BitVec 32 := Scalar.addi c0_i32_2095 v2112
  v2113.toNat
def k0_dev126 (d0 : Dev nD) : Nat :=
  let c0_i32_2103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2100 : BitVec 32 := 23#32
  let v2120 : BitVec 32 := Scalar.xori v2 c23_i32_2100
  let c1_i32_2102 : BitVec 32 := 1#32
  let v2121 : BitVec 32 := Scalar.muli v2120 c1_i32_2102
  let v2122 : BitVec 32 := Scalar.addi c0_i32_2103 v2121
  v2122.toNat
def k0_dev127 (d0 : Dev nD) : Nat :=
  let c0_i32_2111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_2108 : BitVec 32 := 30#32
  let v2129 : BitVec 32 := Scalar.xori v2 c30_i32_2108
  let c1_i32_2110 : BitVec 32 := 1#32
  let v2130 : BitVec 32 := Scalar.muli v2129 c1_i32_2110
  let v2131 : BitVec 32 := Scalar.addi c0_i32_2111 v2130
  v2131.toNat
def k0_dev128 (d0 : Dev nD) : Nat :=
  let c0_i32_2119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2116 : BitVec 32 := 15#32
  let v2138 : BitVec 32 := Scalar.xori v2 c15_i32_2116
  let c1_i32_2118 : BitVec 32 := 1#32
  let v2139 : BitVec 32 := Scalar.muli v2138 c1_i32_2118
  let v2140 : BitVec 32 := Scalar.addi c0_i32_2119 v2139
  v2140.toNat
def k0_dev129 (d0 : Dev nD) : Nat :=
  let c0_i32_2127 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2124 : BitVec 32 := 22#32
  let v2147 : BitVec 32 := Scalar.xori v2 c22_i32_2124
  let c1_i32_2126 : BitVec 32 := 1#32
  let v2148 : BitVec 32 := Scalar.muli v2147 c1_i32_2126
  let v2149 : BitVec 32 := Scalar.addi c0_i32_2127 v2148
  v2149.toNat
def k0_dev130 (d0 : Dev nD) : Nat :=
  let c0_i32_2135 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_2132 : BitVec 32 := 27#32
  let v2156 : BitVec 32 := Scalar.xori v2 c27_i32_2132
  let c1_i32_2134 : BitVec 32 := 1#32
  let v2157 : BitVec 32 := Scalar.muli v2156 c1_i32_2134
  let v2158 : BitVec 32 := Scalar.addi c0_i32_2135 v2157
  v2158.toNat
def k0_dev131 (d0 : Dev nD) : Nat :=
  let c0_i32_2143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_2140 : BitVec 32 := 29#32
  let v2165 : BitVec 32 := Scalar.xori v2 c29_i32_2140
  let c1_i32_2142 : BitVec 32 := 1#32
  let v2166 : BitVec 32 := Scalar.muli v2165 c1_i32_2142
  let v2167 : BitVec 32 := Scalar.addi c0_i32_2143 v2166
  v2167.toNat
def k0_dev132 (d0 : Dev nD) : Nat :=
  let c0_i32_2151 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_2148 : BitVec 32 := 7#32
  let v2174 : BitVec 32 := Scalar.xori v2 c7_i32_2148
  let c1_i32_2150 : BitVec 32 := 1#32
  let v2175 : BitVec 32 := Scalar.muli v2174 c1_i32_2150
  let v2176 : BitVec 32 := Scalar.addi c0_i32_2151 v2175
  v2176.toNat
def k0_dev133 (d0 : Dev nD) : Nat :=
  let c0_i32_2159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_2156 : BitVec 32 := 14#32
  let v2183 : BitVec 32 := Scalar.xori v2 c14_i32_2156
  let c1_i32_2158 : BitVec 32 := 1#32
  let v2184 : BitVec 32 := Scalar.muli v2183 c1_i32_2158
  let v2185 : BitVec 32 := Scalar.addi c0_i32_2159 v2184
  v2185.toNat
def k0_dev134 (d0 : Dev nD) : Nat :=
  let c0_i32_2167 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2164 : BitVec 32 := 19#32
  let v2192 : BitVec 32 := Scalar.xori v2 c19_i32_2164
  let c1_i32_2166 : BitVec 32 := 1#32
  let v2193 : BitVec 32 := Scalar.muli v2192 c1_i32_2166
  let v2194 : BitVec 32 := Scalar.addi c0_i32_2167 v2193
  v2194.toNat
def k0_dev135 (d0 : Dev nD) : Nat :=
  let c0_i32_2175 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2172 : BitVec 32 := 21#32
  let v2201 : BitVec 32 := Scalar.xori v2 c21_i32_2172
  let c1_i32_2174 : BitVec 32 := 1#32
  let v2202 : BitVec 32 := Scalar.muli v2201 c1_i32_2174
  let v2203 : BitVec 32 := Scalar.addi c0_i32_2175 v2202
  v2203.toNat
def k0_dev136 (d0 : Dev nD) : Nat :=
  let c0_i32_2183 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_2180 : BitVec 32 := 26#32
  let v2210 : BitVec 32 := Scalar.xori v2 c26_i32_2180
  let c1_i32_2182 : BitVec 32 := 1#32
  let v2211 : BitVec 32 := Scalar.muli v2210 c1_i32_2182
  let v2212 : BitVec 32 := Scalar.addi c0_i32_2183 v2211
  v2212.toNat
def k0_dev137 (d0 : Dev nD) : Nat :=
  let c0_i32_2191 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_2188 : BitVec 32 := 28#32
  let v2219 : BitVec 32 := Scalar.xori v2 c28_i32_2188
  let c1_i32_2190 : BitVec 32 := 1#32
  let v2220 : BitVec 32 := Scalar.muli v2219 c1_i32_2190
  let v2221 : BitVec 32 := Scalar.addi c0_i32_2191 v2220
  v2221.toNat
def k0_dev138 (d0 : Dev nD) : Nat :=
  let c0_i32_2199 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_2196 : BitVec 32 := 6#32
  let v2228 : BitVec 32 := Scalar.xori v2 c6_i32_2196
  let c1_i32_2198 : BitVec 32 := 1#32
  let v2229 : BitVec 32 := Scalar.muli v2228 c1_i32_2198
  let v2230 : BitVec 32 := Scalar.addi c0_i32_2199 v2229
  v2230.toNat
def k0_dev139 (d0 : Dev nD) : Nat :=
  let c0_i32_2207 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_2204 : BitVec 32 := 11#32
  let v2237 : BitVec 32 := Scalar.xori v2 c11_i32_2204
  let c1_i32_2206 : BitVec 32 := 1#32
  let v2238 : BitVec 32 := Scalar.muli v2237 c1_i32_2206
  let v2239 : BitVec 32 := Scalar.addi c0_i32_2207 v2238
  v2239.toNat
def k0_dev140 (d0 : Dev nD) : Nat :=
  let c0_i32_2215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_2212 : BitVec 32 := 13#32
  let v2246 : BitVec 32 := Scalar.xori v2 c13_i32_2212
  let c1_i32_2214 : BitVec 32 := 1#32
  let v2247 : BitVec 32 := Scalar.muli v2246 c1_i32_2214
  let v2248 : BitVec 32 := Scalar.addi c0_i32_2215 v2247
  v2248.toNat
def k0_dev141 (d0 : Dev nD) : Nat :=
  let c0_i32_2223 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2220 : BitVec 32 := 18#32
  let v2255 : BitVec 32 := Scalar.xori v2 c18_i32_2220
  let c1_i32_2222 : BitVec 32 := 1#32
  let v2256 : BitVec 32 := Scalar.muli v2255 c1_i32_2222
  let v2257 : BitVec 32 := Scalar.addi c0_i32_2223 v2256
  v2257.toNat
def k0_dev142 (d0 : Dev nD) : Nat :=
  let c0_i32_2231 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2228 : BitVec 32 := 20#32
  let v2264 : BitVec 32 := Scalar.xori v2 c20_i32_2228
  let c1_i32_2230 : BitVec 32 := 1#32
  let v2265 : BitVec 32 := Scalar.muli v2264 c1_i32_2230
  let v2266 : BitVec 32 := Scalar.addi c0_i32_2231 v2265
  v2266.toNat
def k0_dev143 (d0 : Dev nD) : Nat :=
  let c0_i32_2239 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_2236 : BitVec 32 := 25#32
  let v2273 : BitVec 32 := Scalar.xori v2 c25_i32_2236
  let c1_i32_2238 : BitVec 32 := 1#32
  let v2274 : BitVec 32 := Scalar.muli v2273 c1_i32_2238
  let v2275 : BitVec 32 := Scalar.addi c0_i32_2239 v2274
  v2275.toNat
def k0_dev144 (d0 : Dev nD) : Nat :=
  let c0_i32_2247 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_2244 : BitVec 32 := 3#32
  let v2282 : BitVec 32 := Scalar.xori v2 c3_i32_2244
  let c1_i32_2246 : BitVec 32 := 1#32
  let v2283 : BitVec 32 := Scalar.muli v2282 c1_i32_2246
  let v2284 : BitVec 32 := Scalar.addi c0_i32_2247 v2283
  v2284.toNat
def k0_dev145 (d0 : Dev nD) : Nat :=
  let c0_i32_2255 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_2252 : BitVec 32 := 5#32
  let v2291 : BitVec 32 := Scalar.xori v2 c5_i32_2252
  let c1_i32_2254 : BitVec 32 := 1#32
  let v2292 : BitVec 32 := Scalar.muli v2291 c1_i32_2254
  let v2293 : BitVec 32 := Scalar.addi c0_i32_2255 v2292
  v2293.toNat
def k0_dev146 (d0 : Dev nD) : Nat :=
  let c0_i32_2263 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_2260 : BitVec 32 := 10#32
  let v2300 : BitVec 32 := Scalar.xori v2 c10_i32_2260
  let c1_i32_2262 : BitVec 32 := 1#32
  let v2301 : BitVec 32 := Scalar.muli v2300 c1_i32_2262
  let v2302 : BitVec 32 := Scalar.addi c0_i32_2263 v2301
  v2302.toNat
def k0_dev147 (d0 : Dev nD) : Nat :=
  let c0_i32_2271 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_2268 : BitVec 32 := 12#32
  let v2309 : BitVec 32 := Scalar.xori v2 c12_i32_2268
  let c1_i32_2270 : BitVec 32 := 1#32
  let v2310 : BitVec 32 := Scalar.muli v2309 c1_i32_2270
  let v2311 : BitVec 32 := Scalar.addi c0_i32_2271 v2310
  v2311.toNat
def k0_dev148 (d0 : Dev nD) : Nat :=
  let c0_i32_2279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2276 : BitVec 32 := 17#32
  let v2318 : BitVec 32 := Scalar.xori v2 c17_i32_2276
  let c1_i32_2278 : BitVec 32 := 1#32
  let v2319 : BitVec 32 := Scalar.muli v2318 c1_i32_2278
  let v2320 : BitVec 32 := Scalar.addi c0_i32_2279 v2319
  v2320.toNat
def k0_dev149 (d0 : Dev nD) : Nat :=
  let c0_i32_2287 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_2284 : BitVec 32 := 24#32
  let v2327 : BitVec 32 := Scalar.xori v2 c24_i32_2284
  let c1_i32_2286 : BitVec 32 := 1#32
  let v2328 : BitVec 32 := Scalar.muli v2327 c1_i32_2286
  let v2329 : BitVec 32 := Scalar.addi c0_i32_2287 v2328
  v2329.toNat
def k0_dev150 (d0 : Dev nD) : Nat :=
  let c0_i32_2295 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2292 : BitVec 32 := 2#32
  let v2336 : BitVec 32 := Scalar.xori v2 c2_i32_2292
  let c1_i32_2294 : BitVec 32 := 1#32
  let v2337 : BitVec 32 := Scalar.muli v2336 c1_i32_2294
  let v2338 : BitVec 32 := Scalar.addi c0_i32_2295 v2337
  v2338.toNat
def k0_dev151 (d0 : Dev nD) : Nat :=
  let c0_i32_2303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_2300 : BitVec 32 := 4#32
  let v2345 : BitVec 32 := Scalar.xori v2 c4_i32_2300
  let c1_i32_2302 : BitVec 32 := 1#32
  let v2346 : BitVec 32 := Scalar.muli v2345 c1_i32_2302
  let v2347 : BitVec 32 := Scalar.addi c0_i32_2303 v2346
  v2347.toNat
def k0_dev152 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_2308 : BitVec 32 := 9#32
  let v2354 : BitVec 32 := Scalar.xori v2 c9_i32_2308
  let c1_i32_2310 : BitVec 32 := 1#32
  let v2355 : BitVec 32 := Scalar.muli v2354 c1_i32_2310
  let v2356 : BitVec 32 := Scalar.addi c0_i32_2311 v2355
  v2356.toNat
def k0_dev153 (d0 : Dev nD) : Nat :=
  let c0_i32_2319 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2316 : BitVec 32 := 16#32
  let v2363 : BitVec 32 := Scalar.xori v2 c16_i32_2316
  let c1_i32_2318 : BitVec 32 := 1#32
  let v2364 : BitVec 32 := Scalar.muli v2363 c1_i32_2318
  let v2365 : BitVec 32 := Scalar.addi c0_i32_2319 v2364
  v2365.toNat
def k0_dev154 (d0 : Dev nD) : Nat :=
  let c0_i32_2327 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2324 : BitVec 32 := 1#32
  let v2372 : BitVec 32 := Scalar.xori v2 c1_i32_2324
  let c1_i32_2326 : BitVec 32 := 1#32
  let v2373 : BitVec 32 := Scalar.muli v2372 c1_i32_2326
  let v2374 : BitVec 32 := Scalar.addi c0_i32_2327 v2373
  v2374.toNat
def k0_dev155 (d0 : Dev nD) : Nat :=
  let c0_i32_2335 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2332 : BitVec 32 := 8#32
  let v2381 : BitVec 32 := Scalar.xori v2 c8_i32_2332
  let c1_i32_2334 : BitVec 32 := 1#32
  let v2382 : BitVec 32 := Scalar.muli v2381 c1_i32_2334
  let v2383 : BitVec 32 := Scalar.addi c0_i32_2335 v2382
  v2383.toNat
def k0_dev156 (d0 : Dev nD) : Nat :=
  let c0_i32_2754 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_2751 : BitVec 32 := 31#32
  let v2774 : BitVec 32 := Scalar.xori v2 c31_i32_2751
  let c1_i32_2753 : BitVec 32 := 1#32
  let v2775 : BitVec 32 := Scalar.muli v2774 c1_i32_2753
  let v2776 : BitVec 32 := Scalar.addi c0_i32_2754 v2775
  v2776.toNat
def k0_dev157 (d0 : Dev nD) : Nat :=
  let c0_i32_2762 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2759 : BitVec 32 := 23#32
  let v2783 : BitVec 32 := Scalar.xori v2 c23_i32_2759
  let c1_i32_2761 : BitVec 32 := 1#32
  let v2784 : BitVec 32 := Scalar.muli v2783 c1_i32_2761
  let v2785 : BitVec 32 := Scalar.addi c0_i32_2762 v2784
  v2785.toNat
def k0_dev158 (d0 : Dev nD) : Nat :=
  let c0_i32_2770 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_2767 : BitVec 32 := 30#32
  let v2792 : BitVec 32 := Scalar.xori v2 c30_i32_2767
  let c1_i32_2769 : BitVec 32 := 1#32
  let v2793 : BitVec 32 := Scalar.muli v2792 c1_i32_2769
  let v2794 : BitVec 32 := Scalar.addi c0_i32_2770 v2793
  v2794.toNat
def k0_dev159 (d0 : Dev nD) : Nat :=
  let c0_i32_2778 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2775 : BitVec 32 := 15#32
  let v2801 : BitVec 32 := Scalar.xori v2 c15_i32_2775
  let c1_i32_2777 : BitVec 32 := 1#32
  let v2802 : BitVec 32 := Scalar.muli v2801 c1_i32_2777
  let v2803 : BitVec 32 := Scalar.addi c0_i32_2778 v2802
  v2803.toNat
def k0_dev160 (d0 : Dev nD) : Nat :=
  let c0_i32_2786 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2783 : BitVec 32 := 22#32
  let v2810 : BitVec 32 := Scalar.xori v2 c22_i32_2783
  let c1_i32_2785 : BitVec 32 := 1#32
  let v2811 : BitVec 32 := Scalar.muli v2810 c1_i32_2785
  let v2812 : BitVec 32 := Scalar.addi c0_i32_2786 v2811
  v2812.toNat
def k0_dev161 (d0 : Dev nD) : Nat :=
  let c0_i32_2794 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_2791 : BitVec 32 := 27#32
  let v2819 : BitVec 32 := Scalar.xori v2 c27_i32_2791
  let c1_i32_2793 : BitVec 32 := 1#32
  let v2820 : BitVec 32 := Scalar.muli v2819 c1_i32_2793
  let v2821 : BitVec 32 := Scalar.addi c0_i32_2794 v2820
  v2821.toNat
def k0_dev162 (d0 : Dev nD) : Nat :=
  let c0_i32_2802 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_2799 : BitVec 32 := 29#32
  let v2828 : BitVec 32 := Scalar.xori v2 c29_i32_2799
  let c1_i32_2801 : BitVec 32 := 1#32
  let v2829 : BitVec 32 := Scalar.muli v2828 c1_i32_2801
  let v2830 : BitVec 32 := Scalar.addi c0_i32_2802 v2829
  v2830.toNat
def k0_dev163 (d0 : Dev nD) : Nat :=
  let c0_i32_2810 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_2807 : BitVec 32 := 7#32
  let v2837 : BitVec 32 := Scalar.xori v2 c7_i32_2807
  let c1_i32_2809 : BitVec 32 := 1#32
  let v2838 : BitVec 32 := Scalar.muli v2837 c1_i32_2809
  let v2839 : BitVec 32 := Scalar.addi c0_i32_2810 v2838
  v2839.toNat
def k0_dev164 (d0 : Dev nD) : Nat :=
  let c0_i32_2818 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_2815 : BitVec 32 := 14#32
  let v2846 : BitVec 32 := Scalar.xori v2 c14_i32_2815
  let c1_i32_2817 : BitVec 32 := 1#32
  let v2847 : BitVec 32 := Scalar.muli v2846 c1_i32_2817
  let v2848 : BitVec 32 := Scalar.addi c0_i32_2818 v2847
  v2848.toNat
def k0_dev165 (d0 : Dev nD) : Nat :=
  let c0_i32_2826 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2823 : BitVec 32 := 19#32
  let v2855 : BitVec 32 := Scalar.xori v2 c19_i32_2823
  let c1_i32_2825 : BitVec 32 := 1#32
  let v2856 : BitVec 32 := Scalar.muli v2855 c1_i32_2825
  let v2857 : BitVec 32 := Scalar.addi c0_i32_2826 v2856
  v2857.toNat
def k0_dev166 (d0 : Dev nD) : Nat :=
  let c0_i32_2834 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2831 : BitVec 32 := 21#32
  let v2864 : BitVec 32 := Scalar.xori v2 c21_i32_2831
  let c1_i32_2833 : BitVec 32 := 1#32
  let v2865 : BitVec 32 := Scalar.muli v2864 c1_i32_2833
  let v2866 : BitVec 32 := Scalar.addi c0_i32_2834 v2865
  v2866.toNat
def k0_dev167 (d0 : Dev nD) : Nat :=
  let c0_i32_2842 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_2839 : BitVec 32 := 26#32
  let v2873 : BitVec 32 := Scalar.xori v2 c26_i32_2839
  let c1_i32_2841 : BitVec 32 := 1#32
  let v2874 : BitVec 32 := Scalar.muli v2873 c1_i32_2841
  let v2875 : BitVec 32 := Scalar.addi c0_i32_2842 v2874
  v2875.toNat
def k0_dev168 (d0 : Dev nD) : Nat :=
  let c0_i32_2850 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_2847 : BitVec 32 := 28#32
  let v2882 : BitVec 32 := Scalar.xori v2 c28_i32_2847
  let c1_i32_2849 : BitVec 32 := 1#32
  let v2883 : BitVec 32 := Scalar.muli v2882 c1_i32_2849
  let v2884 : BitVec 32 := Scalar.addi c0_i32_2850 v2883
  v2884.toNat
def k0_dev169 (d0 : Dev nD) : Nat :=
  let c0_i32_2858 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_2855 : BitVec 32 := 6#32
  let v2891 : BitVec 32 := Scalar.xori v2 c6_i32_2855
  let c1_i32_2857 : BitVec 32 := 1#32
  let v2892 : BitVec 32 := Scalar.muli v2891 c1_i32_2857
  let v2893 : BitVec 32 := Scalar.addi c0_i32_2858 v2892
  v2893.toNat
def k0_dev170 (d0 : Dev nD) : Nat :=
  let c0_i32_2866 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_2863 : BitVec 32 := 11#32
  let v2900 : BitVec 32 := Scalar.xori v2 c11_i32_2863
  let c1_i32_2865 : BitVec 32 := 1#32
  let v2901 : BitVec 32 := Scalar.muli v2900 c1_i32_2865
  let v2902 : BitVec 32 := Scalar.addi c0_i32_2866 v2901
  v2902.toNat
def k0_dev171 (d0 : Dev nD) : Nat :=
  let c0_i32_2874 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_2871 : BitVec 32 := 13#32
  let v2909 : BitVec 32 := Scalar.xori v2 c13_i32_2871
  let c1_i32_2873 : BitVec 32 := 1#32
  let v2910 : BitVec 32 := Scalar.muli v2909 c1_i32_2873
  let v2911 : BitVec 32 := Scalar.addi c0_i32_2874 v2910
  v2911.toNat
def k0_dev172 (d0 : Dev nD) : Nat :=
  let c0_i32_2882 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2879 : BitVec 32 := 18#32
  let v2918 : BitVec 32 := Scalar.xori v2 c18_i32_2879
  let c1_i32_2881 : BitVec 32 := 1#32
  let v2919 : BitVec 32 := Scalar.muli v2918 c1_i32_2881
  let v2920 : BitVec 32 := Scalar.addi c0_i32_2882 v2919
  v2920.toNat
def k0_dev173 (d0 : Dev nD) : Nat :=
  let c0_i32_2890 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2887 : BitVec 32 := 20#32
  let v2927 : BitVec 32 := Scalar.xori v2 c20_i32_2887
  let c1_i32_2889 : BitVec 32 := 1#32
  let v2928 : BitVec 32 := Scalar.muli v2927 c1_i32_2889
  let v2929 : BitVec 32 := Scalar.addi c0_i32_2890 v2928
  v2929.toNat
def k0_dev174 (d0 : Dev nD) : Nat :=
  let c0_i32_2898 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_2895 : BitVec 32 := 25#32
  let v2936 : BitVec 32 := Scalar.xori v2 c25_i32_2895
  let c1_i32_2897 : BitVec 32 := 1#32
  let v2937 : BitVec 32 := Scalar.muli v2936 c1_i32_2897
  let v2938 : BitVec 32 := Scalar.addi c0_i32_2898 v2937
  v2938.toNat
def k0_dev175 (d0 : Dev nD) : Nat :=
  let c0_i32_2906 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_2903 : BitVec 32 := 3#32
  let v2945 : BitVec 32 := Scalar.xori v2 c3_i32_2903
  let c1_i32_2905 : BitVec 32 := 1#32
  let v2946 : BitVec 32 := Scalar.muli v2945 c1_i32_2905
  let v2947 : BitVec 32 := Scalar.addi c0_i32_2906 v2946
  v2947.toNat
def k0_dev176 (d0 : Dev nD) : Nat :=
  let c0_i32_2914 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_2911 : BitVec 32 := 5#32
  let v2954 : BitVec 32 := Scalar.xori v2 c5_i32_2911
  let c1_i32_2913 : BitVec 32 := 1#32
  let v2955 : BitVec 32 := Scalar.muli v2954 c1_i32_2913
  let v2956 : BitVec 32 := Scalar.addi c0_i32_2914 v2955
  v2956.toNat
def k0_dev177 (d0 : Dev nD) : Nat :=
  let c0_i32_2922 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_2919 : BitVec 32 := 10#32
  let v2963 : BitVec 32 := Scalar.xori v2 c10_i32_2919
  let c1_i32_2921 : BitVec 32 := 1#32
  let v2964 : BitVec 32 := Scalar.muli v2963 c1_i32_2921
  let v2965 : BitVec 32 := Scalar.addi c0_i32_2922 v2964
  v2965.toNat
def k0_dev178 (d0 : Dev nD) : Nat :=
  let c0_i32_2930 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_2927 : BitVec 32 := 12#32
  let v2972 : BitVec 32 := Scalar.xori v2 c12_i32_2927
  let c1_i32_2929 : BitVec 32 := 1#32
  let v2973 : BitVec 32 := Scalar.muli v2972 c1_i32_2929
  let v2974 : BitVec 32 := Scalar.addi c0_i32_2930 v2973
  v2974.toNat
def k0_dev179 (d0 : Dev nD) : Nat :=
  let c0_i32_2938 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2935 : BitVec 32 := 17#32
  let v2981 : BitVec 32 := Scalar.xori v2 c17_i32_2935
  let c1_i32_2937 : BitVec 32 := 1#32
  let v2982 : BitVec 32 := Scalar.muli v2981 c1_i32_2937
  let v2983 : BitVec 32 := Scalar.addi c0_i32_2938 v2982
  v2983.toNat
def k0_dev180 (d0 : Dev nD) : Nat :=
  let c0_i32_2946 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_2943 : BitVec 32 := 24#32
  let v2990 : BitVec 32 := Scalar.xori v2 c24_i32_2943
  let c1_i32_2945 : BitVec 32 := 1#32
  let v2991 : BitVec 32 := Scalar.muli v2990 c1_i32_2945
  let v2992 : BitVec 32 := Scalar.addi c0_i32_2946 v2991
  v2992.toNat
def k0_dev181 (d0 : Dev nD) : Nat :=
  let c0_i32_2954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2951 : BitVec 32 := 2#32
  let v2999 : BitVec 32 := Scalar.xori v2 c2_i32_2951
  let c1_i32_2953 : BitVec 32 := 1#32
  let v3000 : BitVec 32 := Scalar.muli v2999 c1_i32_2953
  let v3001 : BitVec 32 := Scalar.addi c0_i32_2954 v3000
  v3001.toNat
def k0_dev182 (d0 : Dev nD) : Nat :=
  let c0_i32_2962 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_2959 : BitVec 32 := 4#32
  let v3008 : BitVec 32 := Scalar.xori v2 c4_i32_2959
  let c1_i32_2961 : BitVec 32 := 1#32
  let v3009 : BitVec 32 := Scalar.muli v3008 c1_i32_2961
  let v3010 : BitVec 32 := Scalar.addi c0_i32_2962 v3009
  v3010.toNat
def k0_dev183 (d0 : Dev nD) : Nat :=
  let c0_i32_2970 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_2967 : BitVec 32 := 9#32
  let v3017 : BitVec 32 := Scalar.xori v2 c9_i32_2967
  let c1_i32_2969 : BitVec 32 := 1#32
  let v3018 : BitVec 32 := Scalar.muli v3017 c1_i32_2969
  let v3019 : BitVec 32 := Scalar.addi c0_i32_2970 v3018
  v3019.toNat
def k0_dev184 (d0 : Dev nD) : Nat :=
  let c0_i32_2978 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2975 : BitVec 32 := 16#32
  let v3026 : BitVec 32 := Scalar.xori v2 c16_i32_2975
  let c1_i32_2977 : BitVec 32 := 1#32
  let v3027 : BitVec 32 := Scalar.muli v3026 c1_i32_2977
  let v3028 : BitVec 32 := Scalar.addi c0_i32_2978 v3027
  v3028.toNat
def k0_dev185 (d0 : Dev nD) : Nat :=
  let c0_i32_2986 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2983 : BitVec 32 := 1#32
  let v3035 : BitVec 32 := Scalar.xori v2 c1_i32_2983
  let c1_i32_2985 : BitVec 32 := 1#32
  let v3036 : BitVec 32 := Scalar.muli v3035 c1_i32_2985
  let v3037 : BitVec 32 := Scalar.addi c0_i32_2986 v3036
  v3037.toNat
def k0_dev186 (d0 : Dev nD) : Nat :=
  let c0_i32_2994 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2991 : BitVec 32 := 8#32
  let v3044 : BitVec 32 := Scalar.xori v2 c8_i32_2991
  let c1_i32_2993 : BitVec 32 := 1#32
  let v3045 : BitVec 32 := Scalar.muli v3044 c1_i32_2993
  let v3046 : BitVec 32 := Scalar.addi c0_i32_2994 v3045
  v3046.toNat
def k0_dev187 (d0 : Dev nD) : Nat :=
  let c0_i32_3421 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_3418 : BitVec 32 := 31#32
  let v3444 : BitVec 32 := Scalar.xori v2 c31_i32_3418
  let c1_i32_3420 : BitVec 32 := 1#32
  let v3445 : BitVec 32 := Scalar.muli v3444 c1_i32_3420
  let v3446 : BitVec 32 := Scalar.addi c0_i32_3421 v3445
  v3446.toNat
def k0_dev188 (d0 : Dev nD) : Nat :=
  let c0_i32_3429 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_3426 : BitVec 32 := 23#32
  let v3453 : BitVec 32 := Scalar.xori v2 c23_i32_3426
  let c1_i32_3428 : BitVec 32 := 1#32
  let v3454 : BitVec 32 := Scalar.muli v3453 c1_i32_3428
  let v3455 : BitVec 32 := Scalar.addi c0_i32_3429 v3454
  v3455.toNat
def k0_dev189 (d0 : Dev nD) : Nat :=
  let c0_i32_3437 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_3434 : BitVec 32 := 30#32
  let v3462 : BitVec 32 := Scalar.xori v2 c30_i32_3434
  let c1_i32_3436 : BitVec 32 := 1#32
  let v3463 : BitVec 32 := Scalar.muli v3462 c1_i32_3436
  let v3464 : BitVec 32 := Scalar.addi c0_i32_3437 v3463
  v3464.toNat
def k0_dev190 (d0 : Dev nD) : Nat :=
  let c0_i32_3445 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_3442 : BitVec 32 := 15#32
  let v3471 : BitVec 32 := Scalar.xori v2 c15_i32_3442
  let c1_i32_3444 : BitVec 32 := 1#32
  let v3472 : BitVec 32 := Scalar.muli v3471 c1_i32_3444
  let v3473 : BitVec 32 := Scalar.addi c0_i32_3445 v3472
  v3473.toNat
def k0_dev191 (d0 : Dev nD) : Nat :=
  let c0_i32_3453 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_3450 : BitVec 32 := 22#32
  let v3480 : BitVec 32 := Scalar.xori v2 c22_i32_3450
  let c1_i32_3452 : BitVec 32 := 1#32
  let v3481 : BitVec 32 := Scalar.muli v3480 c1_i32_3452
  let v3482 : BitVec 32 := Scalar.addi c0_i32_3453 v3481
  v3482.toNat
def k0_dev192 (d0 : Dev nD) : Nat :=
  let c0_i32_3461 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_3458 : BitVec 32 := 27#32
  let v3489 : BitVec 32 := Scalar.xori v2 c27_i32_3458
  let c1_i32_3460 : BitVec 32 := 1#32
  let v3490 : BitVec 32 := Scalar.muli v3489 c1_i32_3460
  let v3491 : BitVec 32 := Scalar.addi c0_i32_3461 v3490
  v3491.toNat
def k0_dev193 (d0 : Dev nD) : Nat :=
  let c0_i32_3469 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_3466 : BitVec 32 := 29#32
  let v3498 : BitVec 32 := Scalar.xori v2 c29_i32_3466
  let c1_i32_3468 : BitVec 32 := 1#32
  let v3499 : BitVec 32 := Scalar.muli v3498 c1_i32_3468
  let v3500 : BitVec 32 := Scalar.addi c0_i32_3469 v3499
  v3500.toNat
def k0_dev194 (d0 : Dev nD) : Nat :=
  let c0_i32_3477 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_3474 : BitVec 32 := 7#32
  let v3507 : BitVec 32 := Scalar.xori v2 c7_i32_3474
  let c1_i32_3476 : BitVec 32 := 1#32
  let v3508 : BitVec 32 := Scalar.muli v3507 c1_i32_3476
  let v3509 : BitVec 32 := Scalar.addi c0_i32_3477 v3508
  v3509.toNat
def k0_dev195 (d0 : Dev nD) : Nat :=
  let c0_i32_3485 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_3482 : BitVec 32 := 14#32
  let v3516 : BitVec 32 := Scalar.xori v2 c14_i32_3482
  let c1_i32_3484 : BitVec 32 := 1#32
  let v3517 : BitVec 32 := Scalar.muli v3516 c1_i32_3484
  let v3518 : BitVec 32 := Scalar.addi c0_i32_3485 v3517
  v3518.toNat
def k0_dev196 (d0 : Dev nD) : Nat :=
  let c0_i32_3493 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_3490 : BitVec 32 := 19#32
  let v3525 : BitVec 32 := Scalar.xori v2 c19_i32_3490
  let c1_i32_3492 : BitVec 32 := 1#32
  let v3526 : BitVec 32 := Scalar.muli v3525 c1_i32_3492
  let v3527 : BitVec 32 := Scalar.addi c0_i32_3493 v3526
  v3527.toNat
def k0_dev197 (d0 : Dev nD) : Nat :=
  let c0_i32_3501 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_3498 : BitVec 32 := 21#32
  let v3534 : BitVec 32 := Scalar.xori v2 c21_i32_3498
  let c1_i32_3500 : BitVec 32 := 1#32
  let v3535 : BitVec 32 := Scalar.muli v3534 c1_i32_3500
  let v3536 : BitVec 32 := Scalar.addi c0_i32_3501 v3535
  v3536.toNat
def k0_dev198 (d0 : Dev nD) : Nat :=
  let c0_i32_3509 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_3506 : BitVec 32 := 26#32
  let v3543 : BitVec 32 := Scalar.xori v2 c26_i32_3506
  let c1_i32_3508 : BitVec 32 := 1#32
  let v3544 : BitVec 32 := Scalar.muli v3543 c1_i32_3508
  let v3545 : BitVec 32 := Scalar.addi c0_i32_3509 v3544
  v3545.toNat
def k0_dev199 (d0 : Dev nD) : Nat :=
  let c0_i32_3517 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_3514 : BitVec 32 := 28#32
  let v3552 : BitVec 32 := Scalar.xori v2 c28_i32_3514
  let c1_i32_3516 : BitVec 32 := 1#32
  let v3553 : BitVec 32 := Scalar.muli v3552 c1_i32_3516
  let v3554 : BitVec 32 := Scalar.addi c0_i32_3517 v3553
  v3554.toNat
def k0_dev200 (d0 : Dev nD) : Nat :=
  let c0_i32_3525 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_3522 : BitVec 32 := 6#32
  let v3561 : BitVec 32 := Scalar.xori v2 c6_i32_3522
  let c1_i32_3524 : BitVec 32 := 1#32
  let v3562 : BitVec 32 := Scalar.muli v3561 c1_i32_3524
  let v3563 : BitVec 32 := Scalar.addi c0_i32_3525 v3562
  v3563.toNat
def k0_dev201 (d0 : Dev nD) : Nat :=
  let c0_i32_3533 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_3530 : BitVec 32 := 11#32
  let v3570 : BitVec 32 := Scalar.xori v2 c11_i32_3530
  let c1_i32_3532 : BitVec 32 := 1#32
  let v3571 : BitVec 32 := Scalar.muli v3570 c1_i32_3532
  let v3572 : BitVec 32 := Scalar.addi c0_i32_3533 v3571
  v3572.toNat
def k0_dev202 (d0 : Dev nD) : Nat :=
  let c0_i32_3541 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_3538 : BitVec 32 := 13#32
  let v3579 : BitVec 32 := Scalar.xori v2 c13_i32_3538
  let c1_i32_3540 : BitVec 32 := 1#32
  let v3580 : BitVec 32 := Scalar.muli v3579 c1_i32_3540
  let v3581 : BitVec 32 := Scalar.addi c0_i32_3541 v3580
  v3581.toNat
def k0_dev203 (d0 : Dev nD) : Nat :=
  let c0_i32_3549 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_3546 : BitVec 32 := 18#32
  let v3588 : BitVec 32 := Scalar.xori v2 c18_i32_3546
  let c1_i32_3548 : BitVec 32 := 1#32
  let v3589 : BitVec 32 := Scalar.muli v3588 c1_i32_3548
  let v3590 : BitVec 32 := Scalar.addi c0_i32_3549 v3589
  v3590.toNat
def k0_dev204 (d0 : Dev nD) : Nat :=
  let c0_i32_3557 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_3554 : BitVec 32 := 20#32
  let v3597 : BitVec 32 := Scalar.xori v2 c20_i32_3554
  let c1_i32_3556 : BitVec 32 := 1#32
  let v3598 : BitVec 32 := Scalar.muli v3597 c1_i32_3556
  let v3599 : BitVec 32 := Scalar.addi c0_i32_3557 v3598
  v3599.toNat
def k0_dev205 (d0 : Dev nD) : Nat :=
  let c0_i32_3565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_3562 : BitVec 32 := 25#32
  let v3606 : BitVec 32 := Scalar.xori v2 c25_i32_3562
  let c1_i32_3564 : BitVec 32 := 1#32
  let v3607 : BitVec 32 := Scalar.muli v3606 c1_i32_3564
  let v3608 : BitVec 32 := Scalar.addi c0_i32_3565 v3607
  v3608.toNat
def k0_dev206 (d0 : Dev nD) : Nat :=
  let c0_i32_3573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_3570 : BitVec 32 := 3#32
  let v3615 : BitVec 32 := Scalar.xori v2 c3_i32_3570
  let c1_i32_3572 : BitVec 32 := 1#32
  let v3616 : BitVec 32 := Scalar.muli v3615 c1_i32_3572
  let v3617 : BitVec 32 := Scalar.addi c0_i32_3573 v3616
  v3617.toNat
def k0_dev207 (d0 : Dev nD) : Nat :=
  let c0_i32_3581 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_3578 : BitVec 32 := 5#32
  let v3624 : BitVec 32 := Scalar.xori v2 c5_i32_3578
  let c1_i32_3580 : BitVec 32 := 1#32
  let v3625 : BitVec 32 := Scalar.muli v3624 c1_i32_3580
  let v3626 : BitVec 32 := Scalar.addi c0_i32_3581 v3625
  v3626.toNat
def k0_dev208 (d0 : Dev nD) : Nat :=
  let c0_i32_3589 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_3586 : BitVec 32 := 10#32
  let v3633 : BitVec 32 := Scalar.xori v2 c10_i32_3586
  let c1_i32_3588 : BitVec 32 := 1#32
  let v3634 : BitVec 32 := Scalar.muli v3633 c1_i32_3588
  let v3635 : BitVec 32 := Scalar.addi c0_i32_3589 v3634
  v3635.toNat
def k0_dev209 (d0 : Dev nD) : Nat :=
  let c0_i32_3597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_3594 : BitVec 32 := 12#32
  let v3642 : BitVec 32 := Scalar.xori v2 c12_i32_3594
  let c1_i32_3596 : BitVec 32 := 1#32
  let v3643 : BitVec 32 := Scalar.muli v3642 c1_i32_3596
  let v3644 : BitVec 32 := Scalar.addi c0_i32_3597 v3643
  v3644.toNat
def k0_dev210 (d0 : Dev nD) : Nat :=
  let c0_i32_3605 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_3602 : BitVec 32 := 17#32
  let v3651 : BitVec 32 := Scalar.xori v2 c17_i32_3602
  let c1_i32_3604 : BitVec 32 := 1#32
  let v3652 : BitVec 32 := Scalar.muli v3651 c1_i32_3604
  let v3653 : BitVec 32 := Scalar.addi c0_i32_3605 v3652
  v3653.toNat
def k0_dev211 (d0 : Dev nD) : Nat :=
  let c0_i32_3613 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_3610 : BitVec 32 := 24#32
  let v3660 : BitVec 32 := Scalar.xori v2 c24_i32_3610
  let c1_i32_3612 : BitVec 32 := 1#32
  let v3661 : BitVec 32 := Scalar.muli v3660 c1_i32_3612
  let v3662 : BitVec 32 := Scalar.addi c0_i32_3613 v3661
  v3662.toNat
def k0_dev212 (d0 : Dev nD) : Nat :=
  let c0_i32_3621 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_3618 : BitVec 32 := 2#32
  let v3669 : BitVec 32 := Scalar.xori v2 c2_i32_3618
  let c1_i32_3620 : BitVec 32 := 1#32
  let v3670 : BitVec 32 := Scalar.muli v3669 c1_i32_3620
  let v3671 : BitVec 32 := Scalar.addi c0_i32_3621 v3670
  v3671.toNat
def k0_dev213 (d0 : Dev nD) : Nat :=
  let c0_i32_3629 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_3626 : BitVec 32 := 4#32
  let v3678 : BitVec 32 := Scalar.xori v2 c4_i32_3626
  let c1_i32_3628 : BitVec 32 := 1#32
  let v3679 : BitVec 32 := Scalar.muli v3678 c1_i32_3628
  let v3680 : BitVec 32 := Scalar.addi c0_i32_3629 v3679
  v3680.toNat
def k0_dev214 (d0 : Dev nD) : Nat :=
  let c0_i32_3637 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_3634 : BitVec 32 := 9#32
  let v3687 : BitVec 32 := Scalar.xori v2 c9_i32_3634
  let c1_i32_3636 : BitVec 32 := 1#32
  let v3688 : BitVec 32 := Scalar.muli v3687 c1_i32_3636
  let v3689 : BitVec 32 := Scalar.addi c0_i32_3637 v3688
  v3689.toNat
def k0_dev215 (d0 : Dev nD) : Nat :=
  let c0_i32_3645 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_3642 : BitVec 32 := 16#32
  let v3696 : BitVec 32 := Scalar.xori v2 c16_i32_3642
  let c1_i32_3644 : BitVec 32 := 1#32
  let v3697 : BitVec 32 := Scalar.muli v3696 c1_i32_3644
  let v3698 : BitVec 32 := Scalar.addi c0_i32_3645 v3697
  v3698.toNat
def k0_dev216 (d0 : Dev nD) : Nat :=
  let c0_i32_3653 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3650 : BitVec 32 := 1#32
  let v3705 : BitVec 32 := Scalar.xori v2 c1_i32_3650
  let c1_i32_3652 : BitVec 32 := 1#32
  let v3706 : BitVec 32 := Scalar.muli v3705 c1_i32_3652
  let v3707 : BitVec 32 := Scalar.addi c0_i32_3653 v3706
  v3707.toNat
def k0_dev217 (d0 : Dev nD) : Nat :=
  let c0_i32_3661 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_3658 : BitVec 32 := 8#32
  let v3714 : BitVec 32 := Scalar.xori v2 c8_i32_3658
  let c1_i32_3660 : BitVec 32 := 1#32
  let v3715 : BitVec 32 := Scalar.muli v3714 c1_i32_3660
  let v3716 : BitVec 32 := Scalar.addi c0_i32_3661 v3715
  v3716.toNat
def k0_dev218 (d0 : Dev nD) : Nat :=
  let c0_i32_4080 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_4077 : BitVec 32 := 31#32
  let v4107 : BitVec 32 := Scalar.xori v2 c31_i32_4077
  let c1_i32_4079 : BitVec 32 := 1#32
  let v4108 : BitVec 32 := Scalar.muli v4107 c1_i32_4079
  let v4109 : BitVec 32 := Scalar.addi c0_i32_4080 v4108
  v4109.toNat
def k0_dev219 (d0 : Dev nD) : Nat :=
  let c0_i32_4088 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_4085 : BitVec 32 := 23#32
  let v4116 : BitVec 32 := Scalar.xori v2 c23_i32_4085
  let c1_i32_4087 : BitVec 32 := 1#32
  let v4117 : BitVec 32 := Scalar.muli v4116 c1_i32_4087
  let v4118 : BitVec 32 := Scalar.addi c0_i32_4088 v4117
  v4118.toNat
def k0_dev220 (d0 : Dev nD) : Nat :=
  let c0_i32_4096 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_4093 : BitVec 32 := 30#32
  let v4125 : BitVec 32 := Scalar.xori v2 c30_i32_4093
  let c1_i32_4095 : BitVec 32 := 1#32
  let v4126 : BitVec 32 := Scalar.muli v4125 c1_i32_4095
  let v4127 : BitVec 32 := Scalar.addi c0_i32_4096 v4126
  v4127.toNat
def k0_dev221 (d0 : Dev nD) : Nat :=
  let c0_i32_4104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_4101 : BitVec 32 := 15#32
  let v4134 : BitVec 32 := Scalar.xori v2 c15_i32_4101
  let c1_i32_4103 : BitVec 32 := 1#32
  let v4135 : BitVec 32 := Scalar.muli v4134 c1_i32_4103
  let v4136 : BitVec 32 := Scalar.addi c0_i32_4104 v4135
  v4136.toNat
def k0_dev222 (d0 : Dev nD) : Nat :=
  let c0_i32_4112 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_4109 : BitVec 32 := 22#32
  let v4143 : BitVec 32 := Scalar.xori v2 c22_i32_4109
  let c1_i32_4111 : BitVec 32 := 1#32
  let v4144 : BitVec 32 := Scalar.muli v4143 c1_i32_4111
  let v4145 : BitVec 32 := Scalar.addi c0_i32_4112 v4144
  v4145.toNat
def k0_dev223 (d0 : Dev nD) : Nat :=
  let c0_i32_4120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_4117 : BitVec 32 := 27#32
  let v4152 : BitVec 32 := Scalar.xori v2 c27_i32_4117
  let c1_i32_4119 : BitVec 32 := 1#32
  let v4153 : BitVec 32 := Scalar.muli v4152 c1_i32_4119
  let v4154 : BitVec 32 := Scalar.addi c0_i32_4120 v4153
  v4154.toNat
def k0_dev224 (d0 : Dev nD) : Nat :=
  let c0_i32_4128 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_4125 : BitVec 32 := 29#32
  let v4161 : BitVec 32 := Scalar.xori v2 c29_i32_4125
  let c1_i32_4127 : BitVec 32 := 1#32
  let v4162 : BitVec 32 := Scalar.muli v4161 c1_i32_4127
  let v4163 : BitVec 32 := Scalar.addi c0_i32_4128 v4162
  v4163.toNat
def k0_dev225 (d0 : Dev nD) : Nat :=
  let c0_i32_4136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_4133 : BitVec 32 := 7#32
  let v4170 : BitVec 32 := Scalar.xori v2 c7_i32_4133
  let c1_i32_4135 : BitVec 32 := 1#32
  let v4171 : BitVec 32 := Scalar.muli v4170 c1_i32_4135
  let v4172 : BitVec 32 := Scalar.addi c0_i32_4136 v4171
  v4172.toNat
def k0_dev226 (d0 : Dev nD) : Nat :=
  let c0_i32_4144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_4141 : BitVec 32 := 14#32
  let v4179 : BitVec 32 := Scalar.xori v2 c14_i32_4141
  let c1_i32_4143 : BitVec 32 := 1#32
  let v4180 : BitVec 32 := Scalar.muli v4179 c1_i32_4143
  let v4181 : BitVec 32 := Scalar.addi c0_i32_4144 v4180
  v4181.toNat
def k0_dev227 (d0 : Dev nD) : Nat :=
  let c0_i32_4152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_4149 : BitVec 32 := 19#32
  let v4188 : BitVec 32 := Scalar.xori v2 c19_i32_4149
  let c1_i32_4151 : BitVec 32 := 1#32
  let v4189 : BitVec 32 := Scalar.muli v4188 c1_i32_4151
  let v4190 : BitVec 32 := Scalar.addi c0_i32_4152 v4189
  v4190.toNat
def k0_dev228 (d0 : Dev nD) : Nat :=
  let c0_i32_4160 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_4157 : BitVec 32 := 21#32
  let v4197 : BitVec 32 := Scalar.xori v2 c21_i32_4157
  let c1_i32_4159 : BitVec 32 := 1#32
  let v4198 : BitVec 32 := Scalar.muli v4197 c1_i32_4159
  let v4199 : BitVec 32 := Scalar.addi c0_i32_4160 v4198
  v4199.toNat
def k0_dev229 (d0 : Dev nD) : Nat :=
  let c0_i32_4168 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_4165 : BitVec 32 := 26#32
  let v4206 : BitVec 32 := Scalar.xori v2 c26_i32_4165
  let c1_i32_4167 : BitVec 32 := 1#32
  let v4207 : BitVec 32 := Scalar.muli v4206 c1_i32_4167
  let v4208 : BitVec 32 := Scalar.addi c0_i32_4168 v4207
  v4208.toNat
def k0_dev230 (d0 : Dev nD) : Nat :=
  let c0_i32_4176 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_4173 : BitVec 32 := 28#32
  let v4215 : BitVec 32 := Scalar.xori v2 c28_i32_4173
  let c1_i32_4175 : BitVec 32 := 1#32
  let v4216 : BitVec 32 := Scalar.muli v4215 c1_i32_4175
  let v4217 : BitVec 32 := Scalar.addi c0_i32_4176 v4216
  v4217.toNat
def k0_dev231 (d0 : Dev nD) : Nat :=
  let c0_i32_4184 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_4181 : BitVec 32 := 6#32
  let v4224 : BitVec 32 := Scalar.xori v2 c6_i32_4181
  let c1_i32_4183 : BitVec 32 := 1#32
  let v4225 : BitVec 32 := Scalar.muli v4224 c1_i32_4183
  let v4226 : BitVec 32 := Scalar.addi c0_i32_4184 v4225
  v4226.toNat
def k0_dev232 (d0 : Dev nD) : Nat :=
  let c0_i32_4192 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_4189 : BitVec 32 := 11#32
  let v4233 : BitVec 32 := Scalar.xori v2 c11_i32_4189
  let c1_i32_4191 : BitVec 32 := 1#32
  let v4234 : BitVec 32 := Scalar.muli v4233 c1_i32_4191
  let v4235 : BitVec 32 := Scalar.addi c0_i32_4192 v4234
  v4235.toNat
def k0_dev233 (d0 : Dev nD) : Nat :=
  let c0_i32_4200 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_4197 : BitVec 32 := 13#32
  let v4242 : BitVec 32 := Scalar.xori v2 c13_i32_4197
  let c1_i32_4199 : BitVec 32 := 1#32
  let v4243 : BitVec 32 := Scalar.muli v4242 c1_i32_4199
  let v4244 : BitVec 32 := Scalar.addi c0_i32_4200 v4243
  v4244.toNat
def k0_dev234 (d0 : Dev nD) : Nat :=
  let c0_i32_4208 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_4205 : BitVec 32 := 18#32
  let v4251 : BitVec 32 := Scalar.xori v2 c18_i32_4205
  let c1_i32_4207 : BitVec 32 := 1#32
  let v4252 : BitVec 32 := Scalar.muli v4251 c1_i32_4207
  let v4253 : BitVec 32 := Scalar.addi c0_i32_4208 v4252
  v4253.toNat
def k0_dev235 (d0 : Dev nD) : Nat :=
  let c0_i32_4216 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_4213 : BitVec 32 := 20#32
  let v4260 : BitVec 32 := Scalar.xori v2 c20_i32_4213
  let c1_i32_4215 : BitVec 32 := 1#32
  let v4261 : BitVec 32 := Scalar.muli v4260 c1_i32_4215
  let v4262 : BitVec 32 := Scalar.addi c0_i32_4216 v4261
  v4262.toNat
def k0_dev236 (d0 : Dev nD) : Nat :=
  let c0_i32_4224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_4221 : BitVec 32 := 25#32
  let v4269 : BitVec 32 := Scalar.xori v2 c25_i32_4221
  let c1_i32_4223 : BitVec 32 := 1#32
  let v4270 : BitVec 32 := Scalar.muli v4269 c1_i32_4223
  let v4271 : BitVec 32 := Scalar.addi c0_i32_4224 v4270
  v4271.toNat
def k0_dev237 (d0 : Dev nD) : Nat :=
  let c0_i32_4232 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_4229 : BitVec 32 := 3#32
  let v4278 : BitVec 32 := Scalar.xori v2 c3_i32_4229
  let c1_i32_4231 : BitVec 32 := 1#32
  let v4279 : BitVec 32 := Scalar.muli v4278 c1_i32_4231
  let v4280 : BitVec 32 := Scalar.addi c0_i32_4232 v4279
  v4280.toNat
def k0_dev238 (d0 : Dev nD) : Nat :=
  let c0_i32_4240 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_4237 : BitVec 32 := 5#32
  let v4287 : BitVec 32 := Scalar.xori v2 c5_i32_4237
  let c1_i32_4239 : BitVec 32 := 1#32
  let v4288 : BitVec 32 := Scalar.muli v4287 c1_i32_4239
  let v4289 : BitVec 32 := Scalar.addi c0_i32_4240 v4288
  v4289.toNat
def k0_dev239 (d0 : Dev nD) : Nat :=
  let c0_i32_4248 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_4245 : BitVec 32 := 10#32
  let v4296 : BitVec 32 := Scalar.xori v2 c10_i32_4245
  let c1_i32_4247 : BitVec 32 := 1#32
  let v4297 : BitVec 32 := Scalar.muli v4296 c1_i32_4247
  let v4298 : BitVec 32 := Scalar.addi c0_i32_4248 v4297
  v4298.toNat
def k0_dev240 (d0 : Dev nD) : Nat :=
  let c0_i32_4256 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_4253 : BitVec 32 := 12#32
  let v4305 : BitVec 32 := Scalar.xori v2 c12_i32_4253
  let c1_i32_4255 : BitVec 32 := 1#32
  let v4306 : BitVec 32 := Scalar.muli v4305 c1_i32_4255
  let v4307 : BitVec 32 := Scalar.addi c0_i32_4256 v4306
  v4307.toNat
def k0_dev241 (d0 : Dev nD) : Nat :=
  let c0_i32_4264 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_4261 : BitVec 32 := 17#32
  let v4314 : BitVec 32 := Scalar.xori v2 c17_i32_4261
  let c1_i32_4263 : BitVec 32 := 1#32
  let v4315 : BitVec 32 := Scalar.muli v4314 c1_i32_4263
  let v4316 : BitVec 32 := Scalar.addi c0_i32_4264 v4315
  v4316.toNat
def k0_dev242 (d0 : Dev nD) : Nat :=
  let c0_i32_4272 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_4269 : BitVec 32 := 24#32
  let v4323 : BitVec 32 := Scalar.xori v2 c24_i32_4269
  let c1_i32_4271 : BitVec 32 := 1#32
  let v4324 : BitVec 32 := Scalar.muli v4323 c1_i32_4271
  let v4325 : BitVec 32 := Scalar.addi c0_i32_4272 v4324
  v4325.toNat
def k0_dev243 (d0 : Dev nD) : Nat :=
  let c0_i32_4280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_4277 : BitVec 32 := 2#32
  let v4332 : BitVec 32 := Scalar.xori v2 c2_i32_4277
  let c1_i32_4279 : BitVec 32 := 1#32
  let v4333 : BitVec 32 := Scalar.muli v4332 c1_i32_4279
  let v4334 : BitVec 32 := Scalar.addi c0_i32_4280 v4333
  v4334.toNat
def k0_dev244 (d0 : Dev nD) : Nat :=
  let c0_i32_4288 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_4285 : BitVec 32 := 4#32
  let v4341 : BitVec 32 := Scalar.xori v2 c4_i32_4285
  let c1_i32_4287 : BitVec 32 := 1#32
  let v4342 : BitVec 32 := Scalar.muli v4341 c1_i32_4287
  let v4343 : BitVec 32 := Scalar.addi c0_i32_4288 v4342
  v4343.toNat
def k0_dev245 (d0 : Dev nD) : Nat :=
  let c0_i32_4296 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_4293 : BitVec 32 := 9#32
  let v4350 : BitVec 32 := Scalar.xori v2 c9_i32_4293
  let c1_i32_4295 : BitVec 32 := 1#32
  let v4351 : BitVec 32 := Scalar.muli v4350 c1_i32_4295
  let v4352 : BitVec 32 := Scalar.addi c0_i32_4296 v4351
  v4352.toNat
def k0_dev246 (d0 : Dev nD) : Nat :=
  let c0_i32_4304 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_4301 : BitVec 32 := 16#32
  let v4359 : BitVec 32 := Scalar.xori v2 c16_i32_4301
  let c1_i32_4303 : BitVec 32 := 1#32
  let v4360 : BitVec 32 := Scalar.muli v4359 c1_i32_4303
  let v4361 : BitVec 32 := Scalar.addi c0_i32_4304 v4360
  v4361.toNat
def k0_dev247 (d0 : Dev nD) : Nat :=
  let c0_i32_4312 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_4309 : BitVec 32 := 1#32
  let v4368 : BitVec 32 := Scalar.xori v2 c1_i32_4309
  let c1_i32_4311 : BitVec 32 := 1#32
  let v4369 : BitVec 32 := Scalar.muli v4368 c1_i32_4311
  let v4370 : BitVec 32 := Scalar.addi c0_i32_4312 v4369
  v4370.toNat
def k0_dev248 (d0 : Dev nD) : Nat :=
  let c0_i32_4320 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4317 : BitVec 32 := 8#32
  let v4377 : BitVec 32 := Scalar.xori v2 c8_i32_4317
  let c1_i32_4319 : BitVec 32 := 1#32
  let v4378 : BitVec 32 := Scalar.muli v4377 c1_i32_4319
  let v4379 : BitVec 32 := Scalar.addi c0_i32_4320 v4378
  v4379.toNat
def k0_dev249 (d0 : Dev nD) : Nat :=
  let c0_i32_4736_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_4733_r0 : BitVec 32 := 1#32
  let v4762_r0 : BitVec 32 := Scalar.xori v2 c1_i32_4733_r0
  let c1_i32_4735_r0 : BitVec 32 := 1#32
  let v4763_r0 : BitVec 32 := Scalar.muli v4762_r0 c1_i32_4735_r0
  let v4764_r0 : BitVec 32 := Scalar.addi c0_i32_4736_r0 v4763_r0
  v4764_r0.toNat
def k0_dev250 (d0 : Dev nD) : Nat :=
  let c0_i32_4740_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_4737_r0 : BitVec 32 := 2#32
  let v4765_r0 : BitVec 32 := Scalar.xori v2 c2_i32_4737_r0
  let c1_i32_4739_r0 : BitVec 32 := 1#32
  let v4766_r0 : BitVec 32 := Scalar.muli v4765_r0 c1_i32_4739_r0
  let v4767_r0 : BitVec 32 := Scalar.addi c0_i32_4740_r0 v4766_r0
  v4767_r0.toNat
def k0_dev251 (d0 : Dev nD) : Nat :=
  let c0_i32_4744_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_4741_r0 : BitVec 32 := 3#32
  let v4768_r0 : BitVec 32 := Scalar.xori v2 c3_i32_4741_r0
  let c1_i32_4743_r0 : BitVec 32 := 1#32
  let v4769_r0 : BitVec 32 := Scalar.muli v4768_r0 c1_i32_4743_r0
  let v4770_r0 : BitVec 32 := Scalar.addi c0_i32_4744_r0 v4769_r0
  v4770_r0.toNat
def k0_dev252 (d0 : Dev nD) : Nat :=
  let c0_i32_4748_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_4745_r0 : BitVec 32 := 4#32
  let v4771_r0 : BitVec 32 := Scalar.xori v2 c4_i32_4745_r0
  let c1_i32_4747_r0 : BitVec 32 := 1#32
  let v4772_r0 : BitVec 32 := Scalar.muli v4771_r0 c1_i32_4747_r0
  let v4773_r0 : BitVec 32 := Scalar.addi c0_i32_4748_r0 v4772_r0
  v4773_r0.toNat
def k0_dev253 (d0 : Dev nD) : Nat :=
  let c0_i32_4752_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_4749_r0 : BitVec 32 := 5#32
  let v4774_r0 : BitVec 32 := Scalar.xori v2 c5_i32_4749_r0
  let c1_i32_4751_r0 : BitVec 32 := 1#32
  let v4775_r0 : BitVec 32 := Scalar.muli v4774_r0 c1_i32_4751_r0
  let v4776_r0 : BitVec 32 := Scalar.addi c0_i32_4752_r0 v4775_r0
  v4776_r0.toNat
def k0_dev254 (d0 : Dev nD) : Nat :=
  let c0_i32_4756_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_4753_r0 : BitVec 32 := 6#32
  let v4777_r0 : BitVec 32 := Scalar.xori v2 c6_i32_4753_r0
  let c1_i32_4755_r0 : BitVec 32 := 1#32
  let v4778_r0 : BitVec 32 := Scalar.muli v4777_r0 c1_i32_4755_r0
  let v4779_r0 : BitVec 32 := Scalar.addi c0_i32_4756_r0 v4778_r0
  v4779_r0.toNat
def k0_dev255 (d0 : Dev nD) : Nat :=
  let c0_i32_4760_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_4757_r0 : BitVec 32 := 7#32
  let v4780_r0 : BitVec 32 := Scalar.xori v2 c7_i32_4757_r0
  let c1_i32_4759_r0 : BitVec 32 := 1#32
  let v4781_r0 : BitVec 32 := Scalar.muli v4780_r0 c1_i32_4759_r0
  let v4782_r0 : BitVec 32 := Scalar.addi c0_i32_4760_r0 v4781_r0
  v4782_r0.toNat
def k0_dev256 (d0 : Dev nD) : Nat :=
  let c0_i32_4764_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4761_r0 : BitVec 32 := 8#32
  let v4783_r0 : BitVec 32 := Scalar.xori v2 c8_i32_4761_r0
  let c1_i32_4763_r0 : BitVec 32 := 1#32
  let v4784_r0 : BitVec 32 := Scalar.muli v4783_r0 c1_i32_4763_r0
  let v4785_r0 : BitVec 32 := Scalar.addi c0_i32_4764_r0 v4784_r0
  v4785_r0.toNat
def k0_dev257 (d0 : Dev nD) : Nat :=
  let c0_i32_4768_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_4765_r0 : BitVec 32 := 9#32
  let v4786_r0 : BitVec 32 := Scalar.xori v2 c9_i32_4765_r0
  let c1_i32_4767_r0 : BitVec 32 := 1#32
  let v4787_r0 : BitVec 32 := Scalar.muli v4786_r0 c1_i32_4767_r0
  let v4788_r0 : BitVec 32 := Scalar.addi c0_i32_4768_r0 v4787_r0
  v4788_r0.toNat
def k0_dev258 (d0 : Dev nD) : Nat :=
  let c0_i32_4772_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_4769_r0 : BitVec 32 := 10#32
  let v4789_r0 : BitVec 32 := Scalar.xori v2 c10_i32_4769_r0
  let c1_i32_4771_r0 : BitVec 32 := 1#32
  let v4790_r0 : BitVec 32 := Scalar.muli v4789_r0 c1_i32_4771_r0
  let v4791_r0 : BitVec 32 := Scalar.addi c0_i32_4772_r0 v4790_r0
  v4791_r0.toNat
def k0_dev259 (d0 : Dev nD) : Nat :=
  let c0_i32_4776_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_4773_r0 : BitVec 32 := 11#32
  let v4792_r0 : BitVec 32 := Scalar.xori v2 c11_i32_4773_r0
  let c1_i32_4775_r0 : BitVec 32 := 1#32
  let v4793_r0 : BitVec 32 := Scalar.muli v4792_r0 c1_i32_4775_r0
  let v4794_r0 : BitVec 32 := Scalar.addi c0_i32_4776_r0 v4793_r0
  v4794_r0.toNat
def k0_dev260 (d0 : Dev nD) : Nat :=
  let c0_i32_4780_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_4777_r0 : BitVec 32 := 12#32
  let v4795_r0 : BitVec 32 := Scalar.xori v2 c12_i32_4777_r0
  let c1_i32_4779_r0 : BitVec 32 := 1#32
  let v4796_r0 : BitVec 32 := Scalar.muli v4795_r0 c1_i32_4779_r0
  let v4797_r0 : BitVec 32 := Scalar.addi c0_i32_4780_r0 v4796_r0
  v4797_r0.toNat
def k0_dev261 (d0 : Dev nD) : Nat :=
  let c0_i32_4784_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_4781_r0 : BitVec 32 := 13#32
  let v4798_r0 : BitVec 32 := Scalar.xori v2 c13_i32_4781_r0
  let c1_i32_4783_r0 : BitVec 32 := 1#32
  let v4799_r0 : BitVec 32 := Scalar.muli v4798_r0 c1_i32_4783_r0
  let v4800_r0 : BitVec 32 := Scalar.addi c0_i32_4784_r0 v4799_r0
  v4800_r0.toNat
def k0_dev262 (d0 : Dev nD) : Nat :=
  let c0_i32_4788_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_4785_r0 : BitVec 32 := 14#32
  let v4801_r0 : BitVec 32 := Scalar.xori v2 c14_i32_4785_r0
  let c1_i32_4787_r0 : BitVec 32 := 1#32
  let v4802_r0 : BitVec 32 := Scalar.muli v4801_r0 c1_i32_4787_r0
  let v4803_r0 : BitVec 32 := Scalar.addi c0_i32_4788_r0 v4802_r0
  v4803_r0.toNat
def k0_dev263 (d0 : Dev nD) : Nat :=
  let c0_i32_4792_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_4789_r0 : BitVec 32 := 15#32
  let v4804_r0 : BitVec 32 := Scalar.xori v2 c15_i32_4789_r0
  let c1_i32_4791_r0 : BitVec 32 := 1#32
  let v4805_r0 : BitVec 32 := Scalar.muli v4804_r0 c1_i32_4791_r0
  let v4806_r0 : BitVec 32 := Scalar.addi c0_i32_4792_r0 v4805_r0
  v4806_r0.toNat
def k0_dev264 (d0 : Dev nD) : Nat :=
  let c0_i32_4796_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_4793_r0 : BitVec 32 := 16#32
  let v4807_r0 : BitVec 32 := Scalar.xori v2 c16_i32_4793_r0
  let c1_i32_4795_r0 : BitVec 32 := 1#32
  let v4808_r0 : BitVec 32 := Scalar.muli v4807_r0 c1_i32_4795_r0
  let v4809_r0 : BitVec 32 := Scalar.addi c0_i32_4796_r0 v4808_r0
  v4809_r0.toNat
def k0_dev265 (d0 : Dev nD) : Nat :=
  let c0_i32_4800_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_4797_r0 : BitVec 32 := 17#32
  let v4810_r0 : BitVec 32 := Scalar.xori v2 c17_i32_4797_r0
  let c1_i32_4799_r0 : BitVec 32 := 1#32
  let v4811_r0 : BitVec 32 := Scalar.muli v4810_r0 c1_i32_4799_r0
  let v4812_r0 : BitVec 32 := Scalar.addi c0_i32_4800_r0 v4811_r0
  v4812_r0.toNat
def k0_dev266 (d0 : Dev nD) : Nat :=
  let c0_i32_4804_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_4801_r0 : BitVec 32 := 18#32
  let v4813_r0 : BitVec 32 := Scalar.xori v2 c18_i32_4801_r0
  let c1_i32_4803_r0 : BitVec 32 := 1#32
  let v4814_r0 : BitVec 32 := Scalar.muli v4813_r0 c1_i32_4803_r0
  let v4815_r0 : BitVec 32 := Scalar.addi c0_i32_4804_r0 v4814_r0
  v4815_r0.toNat
def k0_dev267 (d0 : Dev nD) : Nat :=
  let c0_i32_4808_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_4805_r0 : BitVec 32 := 19#32
  let v4816_r0 : BitVec 32 := Scalar.xori v2 c19_i32_4805_r0
  let c1_i32_4807_r0 : BitVec 32 := 1#32
  let v4817_r0 : BitVec 32 := Scalar.muli v4816_r0 c1_i32_4807_r0
  let v4818_r0 : BitVec 32 := Scalar.addi c0_i32_4808_r0 v4817_r0
  v4818_r0.toNat
def k0_dev268 (d0 : Dev nD) : Nat :=
  let c0_i32_4812_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_4809_r0 : BitVec 32 := 20#32
  let v4819_r0 : BitVec 32 := Scalar.xori v2 c20_i32_4809_r0
  let c1_i32_4811_r0 : BitVec 32 := 1#32
  let v4820_r0 : BitVec 32 := Scalar.muli v4819_r0 c1_i32_4811_r0
  let v4821_r0 : BitVec 32 := Scalar.addi c0_i32_4812_r0 v4820_r0
  v4821_r0.toNat
def k0_dev269 (d0 : Dev nD) : Nat :=
  let c0_i32_4816_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_4813_r0 : BitVec 32 := 21#32
  let v4822_r0 : BitVec 32 := Scalar.xori v2 c21_i32_4813_r0
  let c1_i32_4815_r0 : BitVec 32 := 1#32
  let v4823_r0 : BitVec 32 := Scalar.muli v4822_r0 c1_i32_4815_r0
  let v4824_r0 : BitVec 32 := Scalar.addi c0_i32_4816_r0 v4823_r0
  v4824_r0.toNat
def k0_dev270 (d0 : Dev nD) : Nat :=
  let c0_i32_4820_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_4817_r0 : BitVec 32 := 22#32
  let v4825_r0 : BitVec 32 := Scalar.xori v2 c22_i32_4817_r0
  let c1_i32_4819_r0 : BitVec 32 := 1#32
  let v4826_r0 : BitVec 32 := Scalar.muli v4825_r0 c1_i32_4819_r0
  let v4827_r0 : BitVec 32 := Scalar.addi c0_i32_4820_r0 v4826_r0
  v4827_r0.toNat
def k0_dev271 (d0 : Dev nD) : Nat :=
  let c0_i32_4824_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_4821_r0 : BitVec 32 := 23#32
  let v4828_r0 : BitVec 32 := Scalar.xori v2 c23_i32_4821_r0
  let c1_i32_4823_r0 : BitVec 32 := 1#32
  let v4829_r0 : BitVec 32 := Scalar.muli v4828_r0 c1_i32_4823_r0
  let v4830_r0 : BitVec 32 := Scalar.addi c0_i32_4824_r0 v4829_r0
  v4830_r0.toNat
def k0_dev272 (d0 : Dev nD) : Nat :=
  let c0_i32_4828_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_4825_r0 : BitVec 32 := 24#32
  let v4831_r0 : BitVec 32 := Scalar.xori v2 c24_i32_4825_r0
  let c1_i32_4827_r0 : BitVec 32 := 1#32
  let v4832_r0 : BitVec 32 := Scalar.muli v4831_r0 c1_i32_4827_r0
  let v4833_r0 : BitVec 32 := Scalar.addi c0_i32_4828_r0 v4832_r0
  v4833_r0.toNat
def k0_dev273 (d0 : Dev nD) : Nat :=
  let c0_i32_4832_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_4829_r0 : BitVec 32 := 25#32
  let v4834_r0 : BitVec 32 := Scalar.xori v2 c25_i32_4829_r0
  let c1_i32_4831_r0 : BitVec 32 := 1#32
  let v4835_r0 : BitVec 32 := Scalar.muli v4834_r0 c1_i32_4831_r0
  let v4836_r0 : BitVec 32 := Scalar.addi c0_i32_4832_r0 v4835_r0
  v4836_r0.toNat
def k0_dev274 (d0 : Dev nD) : Nat :=
  let c0_i32_4836_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_4833_r0 : BitVec 32 := 26#32
  let v4837_r0 : BitVec 32 := Scalar.xori v2 c26_i32_4833_r0
  let c1_i32_4835_r0 : BitVec 32 := 1#32
  let v4838_r0 : BitVec 32 := Scalar.muli v4837_r0 c1_i32_4835_r0
  let v4839_r0 : BitVec 32 := Scalar.addi c0_i32_4836_r0 v4838_r0
  v4839_r0.toNat
def k0_dev275 (d0 : Dev nD) : Nat :=
  let c0_i32_4840_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_4837_r0 : BitVec 32 := 27#32
  let v4840_r0 : BitVec 32 := Scalar.xori v2 c27_i32_4837_r0
  let c1_i32_4839_r0 : BitVec 32 := 1#32
  let v4841_r0 : BitVec 32 := Scalar.muli v4840_r0 c1_i32_4839_r0
  let v4842_r0 : BitVec 32 := Scalar.addi c0_i32_4840_r0 v4841_r0
  v4842_r0.toNat
def k0_dev276 (d0 : Dev nD) : Nat :=
  let c0_i32_4844_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_4841_r0 : BitVec 32 := 28#32
  let v4843_r0 : BitVec 32 := Scalar.xori v2 c28_i32_4841_r0
  let c1_i32_4843_r0 : BitVec 32 := 1#32
  let v4844_r0 : BitVec 32 := Scalar.muli v4843_r0 c1_i32_4843_r0
  let v4845_r0 : BitVec 32 := Scalar.addi c0_i32_4844_r0 v4844_r0
  v4845_r0.toNat
def k0_dev277 (d0 : Dev nD) : Nat :=
  let c0_i32_4848_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_4845_r0 : BitVec 32 := 29#32
  let v4846_r0 : BitVec 32 := Scalar.xori v2 c29_i32_4845_r0
  let c1_i32_4847_r0 : BitVec 32 := 1#32
  let v4847_r0 : BitVec 32 := Scalar.muli v4846_r0 c1_i32_4847_r0
  let v4848_r0 : BitVec 32 := Scalar.addi c0_i32_4848_r0 v4847_r0
  v4848_r0.toNat
def k0_dev278 (d0 : Dev nD) : Nat :=
  let c0_i32_4852_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_4849_r0 : BitVec 32 := 30#32
  let v4849_r0 : BitVec 32 := Scalar.xori v2 c30_i32_4849_r0
  let c1_i32_4851_r0 : BitVec 32 := 1#32
  let v4850_r0 : BitVec 32 := Scalar.muli v4849_r0 c1_i32_4851_r0
  let v4851_r0 : BitVec 32 := Scalar.addi c0_i32_4852_r0 v4850_r0
  v4851_r0.toNat
def k0_dev279 (d0 : Dev nD) : Nat :=
  let c0_i32_4856_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_4853_r0 : BitVec 32 := 31#32
  let v4852_r0 : BitVec 32 := Scalar.xori v2 c31_i32_4853_r0
  let c1_i32_4855_r0 : BitVec 32 := 1#32
  let v4853_r0 : BitVec 32 := Scalar.muli v4852_r0 c1_i32_4855_r0
  let v4854_r0 : BitVec 32 := Scalar.addi c0_i32_4856_r0 v4853_r0
  v4854_r0.toNat
abbrev stage0_0 : Fin 1 → Memref sig .tc .vmem S64x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S2048x512 : Shape := ⟨2, ![2048, 512]⟩
abbrev S512x32768 : Shape := ⟨2, ![512, 32768]⟩
abbrev S32768x512 : Shape := ⟨2, ![32768, 512]⟩
abbrev S2048x32768 : Shape := ⟨2, ![2048, 32768]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x32768, .bf16⟩
  | .hbm, ⟨2, _⟩ => ⟨S512x32768, .bf16⟩
  | .hbm, ⟨3, _⟩ => ⟨S512x32768, .bf16⟩
  | .hbm, ⟨4, _⟩ => ⟨S32768x512, .bf16⟩
  | .hbm, ⟨5, _⟩ => ⟨S32768x512, .bf16⟩
  | .hbm, ⟨6, _⟩ => ⟨S32768x512, .bf16⟩
  | .hbm, ⟨7, _⟩ => ⟨S2048x32768, .f32⟩
  | .hbm, ⟨8, _⟩ => ⟨S2048x32768, .bf16⟩
  | .hbm, ⟨9, _⟩ => ⟨S_, .bf16⟩
  | .hbm, ⟨10, _⟩ => ⟨S2048x32768, .bf16⟩
  | .hbm, ⟨11, _⟩ => ⟨S2048x32768, .bf16⟩
  | .hbm, ⟨12, _⟩ => ⟨S2048x512, .f32⟩
  | .hbm, ⟨13, _⟩ => ⟨S2048x512, .bf16⟩
  | .hbm, ⟨14, _⟩ => ⟨S2048x32768, .f32⟩
  | .hbm, ⟨15, _⟩ => ⟨S2048x32768, .bf16⟩
  | .hbm, ⟨16, _⟩ => ⟨S_, .bf16⟩
  | .hbm, ⟨17, _⟩ => ⟨S2048x32768, .bf16⟩
  | .hbm, ⟨18, _⟩ => ⟨S2048x32768, .bf16⟩
  | .hbm, ⟨19, _⟩ => ⟨S2048x512, .f32⟩
  | .hbm, ⟨20, _⟩ => ⟨S2048x512, .bf16⟩
  | .hbm, ⟨21, _⟩ => ⟨S2048x32768, .f32⟩
  | .hbm, ⟨22, _⟩ => ⟨S2048x32768, .bf16⟩
  | .hbm, ⟨23, _⟩ => ⟨S_, .bf16⟩
  | .hbm, ⟨24, _⟩ => ⟨S2048x32768, .bf16⟩
  | .hbm, ⟨25, _⟩ => ⟨S2048x32768, .bf16⟩
  | .hbm, ⟨26, _⟩ => ⟨S2048x512, .f32⟩
  | .hbm, ⟨27, _⟩ => ⟨S2048x512, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Proof.Protocol.lean ====
/-
# The all-to-all protocol of the three-layer kernel: cells, contents, schedule, levels

Thirty-two devices. Device `c` talks to `px c j` (the device whose number is `c`'s with the bits of `j` flipped) for
each of the thirty-one nonzero `j`. The run has nine PHASES, numbered 0 to 8:

* phase 0 — the entry handshake on the barrier semaphore;
* phase `2 r + 1` — all-gather number `r` (`r = 0, …, 3`): every device copies its slab of the activations to every peer;
* phase `2 r + 2` — scatter number `r` (`r = 0, 1, 2`): every device copies, to every peer, that peer's slab of its partial product;
* phase 8 — the exit handshake.

Every cell's duties are named by the device that pays them. A handshake cell has one round, the cell the all-gathers
complete on four, the scatters' three, each with a duty per peer; a send cell has seven rounds of one duty, paid by its
own device. A copy's landing place is handed to the copying device one phase ahead: the slabs of the activation buffer
with the entry signals and then with each scatter, the slabs of the landing buffer with each all-gather.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The protocol's rounds: duties are named by devices. -/
abbrev UB : Type := URounds (GSem nD τ sig) (Dev nD)
/-- With the pipeline's own. -/
abbrev UU : Type := UR sig nD τ × UB

local notation "𝕄" => MT nD τ sig ℕ (Elt F) ℕ UU ℕ

/-- Where the pipeline's ghost state lives, -/
abbrev EP : Emb (UR sig nD τ) (MT nD τ sig ℕ (Elt F) ℕ UU ℕ) := embL
/-- and the protocol's. -/
abbrev ER : Emb UB (MT nD τ sig ℕ (Elt F) ℕ UU ℕ) := embR

/-! ## Peers -/

/-- The device whose number is `c`'s with the bits of `j` flipped. -/
def px (c : Dev nD) (j : Fin 32) : Dev nD := ⟨(c.val ^^^ j.val) % 32, Nat.mod_lt _ (by decide)⟩

/-- Flipping the same bits twice changes nothing. -/
theorem px_px (c : Dev nD) (j : Fin 32) : px (px c j) j = c := by revert c j; decide +kernel
/-- A nonzero flip moves every device. -/
theorem px_ne (c : Dev nD) (j : Fin 32) (h : j ≠ 0) : px c j ≠ c := by revert c j; decide +kernel
/-- Different flips lead to different devices. -/
theorem px_inj (c : Dev nD) {i j : Fin 32} (h : px c i = px c j) : i = j := by revert c i j; decide +kernel

/-- The flip of the `k`-th copy of a phase: the kernel's order of peers. -/
def jo : Fin 31 → Fin 32 :=
  ![31, 23, 30, 15, 22, 27, 29, 7, 14, 19, 21, 26, 28, 6, 11, 13, 18, 20, 25, 3, 5, 10, 12, 17, 24, 2, 4, 9, 16, 1, 8]

/-- Every listed flip is nonzero. -/
theorem jo_ne (k : Fin 31) : jo k ≠ 0 := by revert k; decide
/-- No flip is listed twice. -/
theorem jo_inj {i k : Fin 31} (h : jo i = jo k) : i = k := by revert i k; decide

/-- The peer of the `k`-th copy of a phase. -/
abbrev peer (c : Dev nD) (k : Fin 31) : Dev nD := px c (jo k)

/-- A device is no peer of its own. -/
theorem peer_ne (c : Dev nD) (k : Fin 31) : peer c k ≠ c := px_ne c _ (jo_ne k)

/-- The peers of a device, listed over the copies, are all other devices; -/
theorem peers_map (c : Dev nD) : Finset.univ.erase c = Finset.univ.map ⟨peer c, fun i k h => jo_inj (px_inj c h)⟩ := by
  revert c; decide +kernel
/-- listed over the nonzero flips, too. -/
theorem flips_map (c : Dev nD) : Finset.univ.erase c = (Finset.univ.erase (0 : Fin 32)).map ⟨px c, fun i k h => px_inj c h⟩ := by
  revert c; decide +kernel

/-! ## The memrefs and cells -/

/-- The buffers: gathered activations, -/
abbrev xqM : Memref sig .tc .vmem S32x64x512 .bf16 := Memref.whole cc0_scratch0
/-- partial product, -/
abbrev partM : Memref sig .tc .vmem S32x64x512 .f32 := Memref.whole cc0_scratch1
/-- landing place of the peers' products, -/
abbrev landM : Memref sig .tc .vmem S32x64x512 .bf16 := Memref.whole cc0_scratch2
/-- rounded products to send. -/
abbrev sendbM : Memref sig .tc .vmem S32x64x512 .bf16 := Memref.whole cc0_scratch3

/-- The kinds of cells the protocol uses: the entry barrier (0), the all-gathers' arrivals (1), the scatters' arrivals (2), the exit
    barrier (3), and the thirty-one departures. -/
abbrev Kd : Type := Fin 4 ⊕ Fin 31

/-- The kinds by name: entry barrier, -/
abbrev kBar : Kd := .inl 0
/-- arrivals of the all-gathers, -/
abbrev kAg : Kd := .inl 1
/-- of the scatters, -/
abbrev kRs : Kd := .inl 2
/-- exit barrier, -/
abbrev kEx : Kd := .inl 3
/-- departures of the `k`-th copy. -/
abbrev kSn (k : Fin 31) : Kd := .inr k

/-- The semaphore of each kind. -/
def csem : Kd → SemLoc sig
  | .inl 0 => .reg (SemArray.scalar (sig.barrier 0 rfl) : Sems sig S_).sem
  | .inl 1 => .dma (cc0_scratch6 : DmaSems sig S_).sem
  | .inl 2 => .dma (cc0_scratch5 : DmaSems sig S_).sem
  | .inl 3 => .reg (cc0_scoped0 : Sems sig S_).sem
  | .inr k => .dma (⟨8 + k.val, by have := k.isLt; show 8 + k.val < 41; omega⟩ : DmaSem sig)

/-- The kind of a semaphore, if the protocol uses it. -/
def kind (sm : SemLoc sig) : Option Kd :=
  (([kBar, kAg, kRs, kEx] ++ (List.finRange 31).map kSn).find? fun kd => decide (csem kd = sm))

set_option maxRecDepth 8000 in
/-- Each kind's semaphore is of that kind. -/
theorem kind_csem (kd : Kd) : kind (csem kd) = some kd := by revert kd; decide +kernel

/-- Different kinds have different semaphores. -/
theorem csem_inj {a b : Kd} (h : csem a = csem b) : a = b :=
  Option.some.inj (by rw [← kind_csem a, ← kind_csem b, h])

/-- Device `c`'s cell of a kind. -/
abbrev kcell (c : Dev nD) (kd : Kd) : GSem nD τ sig := ((c : Thread nD τ), csem kd)

/-- Cells are told apart by device and kind. -/
theorem kcell_inj {c c' : Dev nD} {a b : Kd} (h : kcell c a = kcell c' b) : c = c' ∧ a = b :=
  ⟨congrArg (fun g : GSem nD τ sig => g.1.1) h, csem_inj (congrArg Prod.snd h)⟩

/-- Where a slab starts. -/
abbrev slabOff (i : Dev nD) : Fin 3 → Nat := ![i.val, 0, 0]

/-- A slab lies within the buffer. -/
theorem slab_inb (i : Dev nD) : ∀ a, slabOff i a + S1x64x512.size a ≤ S32x64x512.size a := by revert i; decide +kernel

/-- The view of a slab as the kernel forms it. -/
abbrev slabM {e : EltTy} (M : Memref sig .tc .vmem S32x64x512 e) (off : Fin 3 → Nat) (h : ∀ a, off a + S1x64x512.size a ≤ S32x64x512.size a) :
    Memref sig .tc .vmem S64x512 e :=
  (M.slice (Rect.unit (s := S32x64x512) off S1x64x512.size h) (fun _ => rfl)).squeeze S64x512 squeezes_S1x64x512_S64x512

/-- What one copy credits. -/
abbrev N : ℕ := (slabM landM (slabOff 0) (slab_inb 0)).view.dmaCredit
/-- A copy of a slab moves something. -/
theorem N_pos : 0 < N := View.dmaCredit_pos _ (by decide)

/-! ## Contents -/

/-- The elements of a slab. -/
def slabSet (i : Dev nD) : Finset S32x64x512.Idx := Finset.univ.filter fun x => (show Fin 32 from x 0) = i

/-- An element's place within its slab; -/
def low (x : S32x64x512.Idx) : S1x64x512.Idx := fun a => match a with
  | ⟨0, _⟩ => (⟨0, Nat.one_pos⟩ : Fin 1)
  | ⟨1, _⟩ => (x 1 : Fin 64)
  | ⟨2, _⟩ => (x 2 : Fin 512)
/-- the element of slab `i` at a place. -/
def at3 (i : Dev nD) (y : S1x64x512.Idx) : S32x64x512.Idx := fun a => match a with
  | ⟨0, _⟩ => (i : Fin 32)
  | ⟨1, _⟩ => (y 1 : Fin 64)
  | ⟨2, _⟩ => (y 2 : Fin 512)

/-- Slab `i` of a buffer's contents. -/
def slab {e : EltTy} (i : Dev nD) (f : Vec F S32x64x512 e) : Vec F S1x64x512 e := fun y => f (at3 i y)

section Contents

variable (m : (ℓ : Loc nD τ sig) → Buf (Elt F) ℓ)

/-- Device `c`'s operands as staged: its rows of the activations, -/
def xstg (c : Dev nD) : Vec F S64x512 .bf16 := (win0_0.blk (0 : Fin 1)).view.read (Elt F) (m ((c : Thread nD τ).loc main_arg0))
/-- its columns of layer `r`'s first weight, -/
def wi (r : ℕ) (c : Dev nD) : Vec F S512x1024 .bf16 := match r with
  | 0 => (win0_1.blk (0 : Fin 1)).view.read (Elt F) (m ((c : Thread nD τ).loc main_arg1))
  | 1 => (win0_3.blk (0 : Fin 1)).view.read (Elt F) (m ((c : Thread nD τ).loc main_arg2))
  | _ => (win0_5.blk (0 : Fin 1)).view.read (Elt F) (m ((c : Thread nD τ).loc main_arg3))
/-- its rows of layer `r`'s second weight. -/
def wo (r : ℕ) (c : Dev nD) : Vec F S1024x512 .bf16 := match r with
  | 0 => (win0_2.blk (0 : Fin 1)).view.read (Elt F) (m ((c : Thread nD τ).loc main_arg4))
  | 1 => (win0_4.blk (0 : Fin 1)).view.read (Elt F) (m ((c : Thread nD τ).loc main_arg5))
  | _ => (win0_6.blk (0 : Fin 1)).view.read (Elt F) (m ((c : Thread nD τ).loc main_arg6))

/-- Device `c`'s partial product of layer `r` from gathered activations `X`, kept in `f32`; -/
def pvOf (X : Vec F S32x64x512 .bf16) (r : ℕ) (c : Dev nD) : Vec F S32x64x512 .f32 := k0_pay6 (k0_pay3 X) (wi m r c) (wo m r c)
/-- rounded, as sent; -/
def svOf (X : Vec F S32x64x512 .bf16) (r : ℕ) (c : Dev nD) : Vec F S32x64x512 .bf16 := k0_pay5 (k0_pay3 X) (wi m r c) (wo m r c)
/-- and what device `c`'s landing buffer holds once its peers' slabs have arrived, its own slab zero. -/
def lvOf (X : Vec F S32x64x512 .bf16) (r : ℕ) (c : Dev nD) : Vec F S32x64x512 .bf16 := fun x =>
  if (show Fin 32 from x 0) = c then k0_pay1 (F := F) (low x) else svOf m X r (x 0) (at3 c (low x))

/-- The gathered activations before layer `r` (after the last layer at `r = 3`). -/
def XQ : ℕ → Vec F S32x64x512 .bf16
  | 0 => fun x => k0_pay2 (xstg m (x 0)) (low x)
  | r + 1 => fun x => k0_pay7 (slab (F := F) (x 0) (pvOf m (XQ r) r (x 0))) (lvOf m (XQ r) r (x 0)) (low x)

/-- The same contents in the run: partial products, -/
abbrev PV (r : ℕ) (c : Dev nD) : Vec F S32x64x512 .f32 := pvOf m (XQ m r) r c
/-- as sent, -/
abbrev SV (r : ℕ) (c : Dev nD) : Vec F S32x64x512 .bf16 := svOf m (XQ m r) r c
/-- as landed. -/
abbrev LV (r : ℕ) (c : Dev nD) : Vec F S32x64x512 .bf16 := lvOf m (XQ m r) r c

end Contents

/-! ## Slabs held -/

/-- Slab `i` of device `c`'s activation buffer at contents `f`, share `q`; -/
def xqS (c : Dev nD) (q : PosShare TreeShare) (i : Dev nD) (f : Vec F S32x64x512 .bf16) : sProp 𝕄 :=
  ((c : Thread nD τ).loc cc0_scratch0) ↦[slabSet i]{q} f
/-- of its landing buffer; -/
def landS (c : Dev nD) (i : Dev nD) (f : Vec F S32x64x512 .bf16) : sProp 𝕄 :=
  ((c : Thread nD τ).loc cc0_scratch2) ↦[slabSet i]{fullShare} f
/-- of its buffer of rounded partial products. -/
def sendS (c : Dev nD) (i : Dev nD) (f : Vec F S32x64x512 .bf16) : sProp 𝕄 :=
  ((c : Thread nD τ).loc cc0_scratch3) ↦[slabSet i]{fullShare} f

/-- The share of its own slab a device lends to its `k`-th copy. -/
abbrev qk (k : Fin 31) : PosShare TreeShare := Transfers.shareTok fullShare 31 k

section Schedule

variable (m : (ℓ : Loc nD τ sig) → Buf (Elt F) ℓ)

/-- What device `d` hands device `c` ahead of all-gather `r`: the slab of `d`'s activation buffer `c` will fill, and that `d` awaits
    all-gather `r`. -/
def handA (r : ℕ) (c d : Dev nD) : sProp 𝕄 := iprop((∃ f, xqS (F := F) d fullShare c f) ∗ reached ER (kcell d kAg) r)
/-- What device `d` hands device `c` ahead of scatter `r`, if there is one: the slab of `d`'s landing buffer `c` will fill, and that `d`
    awaits scatter `r`. -/
def handR (r : ℕ) (c d : Dev nD) : sProp 𝕄 :=
  if r < 3 then iprop((∃ f, landS (F := F) d c f) ∗ reached ER (kcell d kRs) r) else iprop(emp)

/-- What comes back from the `k`-th copy of round `ρ`: the share of the own slab lent to an all-gather, or the slab lent to a scatter. -/
def sentPay (ρ : ℕ) (c : Dev nD) (k : Fin 31) : sProp 𝕄 :=
  if ρ % 2 = 0 then xqS c (qk k) c (XQ m (ρ / 2)) else sendS c (peer c k) (SV m (ρ / 2) c)

/-- How many rounds a cell of a kind has. -/
def rounds : Kd → ℕ
  | .inl 0 => 1
  | .inl 1 => 4
  | .inl 2 => 3
  | .inl 3 => 1
  | .inr _ => 7
/-- Who pays a round of device `c`'s cell of a kind. -/
def payers : Kd → Dev nD → Finset (Dev nD)
  | .inl _, c => Finset.univ.erase c
  | .inr _, c => {c}
/-- What each duty of a kind pays. -/
def amt : Kd → ℕ
  | .inl 0 => 1
  | .inl 3 => 1
  | _ => N
/-- What comes with the duty device `d` pays in round `r` of device `c`'s cell of a kind. -/
def pay (kd : Kd) (c : Dev nD) (r : ℕ) (d : Dev nD) : sProp 𝕄 := match kd with
  | .inl 0 => handA 0 c d
  | .inl 1 => iprop(xqS c fullShare d (XQ m r) ∗ handR r c d)
  | .inl 2 => iprop(landS c d (LV m r c) ∗ handA (r + 1) c d)
  | .inl 3 => iprop(emp)
  | .inr k => sentPay m r c k

/-- Every duty pays something. -/
theorem amt_pos (kd : Kd) : 0 < amt kd := by
  rcases kd with k | k
  · fin_cases k <;> first | exact Nat.one_pos | exact N_pos
  · exact N_pos

/-- The schedule of every cell. -/
def Rd : Rounds.Schedule (GSem nD τ sig) (Dev nD) 𝕄 where
  duties g r := if g.1.2 = .tc then (match kind g.2 with | some kd => if r < rounds kd then payers kd g.1.1 else ∅ | none => ∅) else ∅
  unitless _ := False
  amount g _ _ := match kind g.2 with | some kd => amt kd | none => 1
  payload g r d := match kind g.2 with | some kd => pay m kd g.1.1 r d | none => iprop(emp)
  amount_pos g _ _ _ := by
    rcases kind g.2 with _ | kd
    · exact Nat.one_pos
    · exact amt_pos kd

omit [FloatOps F] in
/-- Slabs, hand-overs and payloads may be kept in an invariant: of the activation buffer, -/
instance xqS_storable (c : Dev nD) (q : PosShare TreeShare) (i : Dev nD) (f : Vec F S32x64x512 .bf16) : BI.Storable (upEmb : UEmb _ 𝕄) (xqS c q i f) := by
  unfold xqS; infer_instance
omit [FloatOps F] in
/-- of the landing buffer, -/
instance landS_storable (c i : Dev nD) (f : Vec F S32x64x512 .bf16) : BI.Storable (upEmb : UEmb _ 𝕄) (landS c i f) := by unfold landS; infer_instance
omit [FloatOps F] in
/-- of the buffer to send, -/
instance sendS_storable (c i : Dev nD) (f : Vec F S32x64x512 .bf16) : BI.Storable (upEmb : UEmb _ 𝕄) (sendS c i f) := by unfold sendS; infer_instance
omit [FloatOps F] in
/-- what is handed over ahead of a gather, -/
instance handA_storable (r : ℕ) (c d : Dev nD) : BI.Storable (upEmb : UEmb _ 𝕄) (handA (F := F) r c d) := by unfold handA; infer_instance
omit [FloatOps F] in
/-- or of a scatter, -/
instance handR_storable (r : ℕ) (c d : Dev nD) : BI.Storable (upEmb : UEmb _ 𝕄) (handR (F := F) r c d) := by unfold handR; split <;> infer_instance
/-- what comes with a duty, -/
instance pay_storable (kd : Kd) (c : Dev nD) (r : ℕ) (d : Dev nD) : BI.Storable (upEmb : UEmb _ 𝕄) (pay (F := F) m kd c r d) := by
  rcases kd with k | k
  · fin_cases k <;> (dsimp only [pay]; infer_instance)
  · dsimp only [pay]; unfold sentPay; split <;> infer_instance
/-- and so the schedule's payloads. -/
instance Rd_payload_storable (g : GSem nD τ sig) (r : ℕ) (d : Dev nD) : BI.Storable (upEmb : UEmb _ 𝕄) ((Rd (F := F) m).payload g r d) := by
  show BI.Storable upEmb (match kind g.2 with | some kd => pay m kd g.1.1 r d | none => iprop(emp))
  split <;> infer_instance

variable (c : Dev nD) (kd : Kd)

/-- The schedule read at a cell: who pays a round, -/
theorem duties_eq (r : ℕ) : (Rd (F := F) m).duties (kcell c kd) r = if r < rounds kd then payers kd c else ∅ := by
  dsimp only [Rd]; rw [kind_csem]; exact if_pos rfl
/-- a round that there is, -/
theorem duties_at {r : ℕ} (h : r < rounds kd) : (Rd (F := F) m).duties (kcell c kd) r = payers kd c := by rw [duties_eq, if_pos h]
/-- or none; -/
theorem duties_later (r : ℕ) (h : rounds kd ≤ r) : (Rd (F := F) m).duties (kcell c kd) r = ∅ := by rw [duties_eq, if_neg (by omega)]
/-- how much, -/
theorem amount_eq (r : ℕ) (d : Dev nD) : (Rd (F := F) m).amount (kcell c kd) r d = amt kd := by dsimp only [Rd]; rw [kind_csem]
/-- and with what. -/
theorem payload_eq (r : ℕ) (d : Dev nD) : (Rd (F := F) m).payload (kcell c kd) r d = pay m kd c r d := by dsimp only [Rd]; rw [kind_csem]

/-- A round of a handshake or arrival cell is thirty-one payments. -/
theorem expect_inl (i : Fin 4) {r : ℕ} (h : r < rounds (.inl i)) : (Rd (F := F) m).expect (kcell c (.inl i)) r = 31 * amt (.inl i) := by
  unfold Schedule.expect Schedule.amountOf
  rw [duties_at m c _ h, Finset.sum_congr rfl fun d _ => amount_eq m c _ r d, Finset.sum_const, smul_eq_mul]
  congr 1
  show (Finset.univ.erase c).card = 31
  rw [Finset.card_erase_of_mem (Finset.mem_univ _), Finset.card_univ]; rfl
/-- A round of a departure cell is one. -/
theorem expect_inr (k : Fin 31) {r : ℕ} (h : r < 7) : (Rd (F := F) m).expect (kcell c (.inr k)) r = N := by
  unfold Schedule.expect Schedule.amountOf
  rw [duties_at m c (.inr k) h, show payers (.inr k) c = {c} from rfl, Finset.sum_singleton, amount_eq]; rfl

end Schedule

/-! ## What is owed, phase by phase; the levels -/

/-- The kind of cell a phase pays into; -/
def pk : ℕ → Kd
  | 0 => kBar | 1 => kAg | 2 => kRs | 3 => kAg | 4 => kRs | 5 => kAg | 6 => kRs | 7 => kAg | _ => kEx
/-- the round of it. -/
def pr : ℕ → ℕ
  | 0 => 0 | 1 => 0 | 2 => 0 | 3 => 1 | 4 => 1 | 5 => 2 | 6 => 2 | 7 => 3 | _ => 0

/-- Device `e`'s claim in phase `p`. -/
abbrev due (p : ℕ) (e : Dev nD) : CellTallies nD τ sig ℕ := tallyAt (kcell e (pk p)) (p + 1) (amt (pk p))

/-- What device `c` owes in the phases after `p`: a payment to every other device in each. -/
def later (c : Dev nD) (p : ℕ) : CellTallies nD τ sig ℕ := ∑ p' ∈ Finset.Ioo p 9, ∑ e ∈ Finset.univ.erase c, due p' e
/-- What it owes within phase `p`, the flips `l` still to pay. -/
def owedIn (c : Dev nD) (p : ℕ) (l : List (Fin 32)) : CellTallies nD τ sig ℕ := (l.map fun j => due p (px c j)).sum + later c p

/-- The next flip to pay, taken out. -/
theorem owedIn_cons (c : Dev nD) (p : ℕ) (j : Fin 32) (l : List (Fin 32)) : owedIn c p (j :: l) = owedIn c p l + due p (px c j) := by
  unfold owedIn; rw [List.map_cons, List.sum_cons, add_assoc, add_comm]
/-- With none left, the later phases are owed. -/
theorem owedIn_nil (c : Dev nD) (p : ℕ) : owedIn c p [] = later c p := by unfold owedIn; rw [List.map_nil, List.sum_nil, zero_add]
/-- After the last phase nothing is owed. -/
theorem later_last (c : Dev nD) : later c 8 = 0 := by unfold later; rw [show Finset.Ioo 8 9 = ∅ from by decide]; rfl

/-- A list of all nonzero flips pays the whole next phase. -/
theorem later_eq (c : Dev nD) {p : ℕ} (hp : p < 8) {l : List (Fin 32)} (hn : l.Nodup) (hl : l.toFinset = Finset.univ.erase 0) :
    later c p = owedIn c (p + 1) l := by
  unfold owedIn later
  rw [show Finset.Ioo p 9 = insert (p + 1) (Finset.Ioo (p + 1) 9) from by ext x; simp only [Finset.mem_Ioo, Finset.mem_insert]; omega,
    Finset.sum_insert (by simp)]
  congr 1
  rw [flips_map c, Finset.sum_map, ← hl, List.sum_toFinset _ hn]; rfl

/-- All flips, ascending (the handshakes' order), -/
def flips : List (Fin 32) := [1, 2, 3, 4, 5, 6, 7, 8, 9, 10, 11, 12, 13, 14, 15, 16, 17, 18, 19, 20, 21, 22, 23, 24, 25, 26, 27, 28, 29, 30, 31]
/-- They are distinct -/
theorem flips_nodup : flips.Nodup := by decide
/-- and all the nonzero ones, -/
theorem flips_all : flips.toFinset = Finset.univ.erase 0 := by decide
/-- and the copies in order. -/
def ks : List (Fin 31) := [0, 1, 2, 3, 4, 5, 6, 7, 8, 9, 10, 11, 12, 13, 14, 15, 16, 17, 18, 19, 20, 21, 22, 23, 24, 25, 26, 27, 28, 29, 30]
/-- They are distinct -/
theorem ks_nodup : ks.Nodup := by decide
/-- and all of them, -/
theorem ks_all (k : Fin 31) : k ∈ ks := by revert k; decide
/-- and so are their flips, -/
theorem ksj_nodup : (ks.map jo).Nodup := by decide
/-- all the nonzero ones. -/
theorem ksj_all : (ks.map jo).toFinset = Finset.univ.erase 0 := by decide

/-- What a device owes at launch: everything. -/
def O₀ (c : Dev nD) : CellTallies nD τ sig ℕ := owedIn c 0 flips

/-- The levels in use: those of the devices' main threads. -/
def L (g : GSem nD τ sig) : Finset ℕ := if g.1.2 = .tc then Finset.range 10 else ∅
/-- A phase's claims sit at the level one above the phase's number; staging and departures at 0. -/
def lv (_ : GSem nD τ sig) (ι : ℕ) : ℕ := ι

/-- No other thread has a level, -/
theorem L_of_ne (g : GSem nD τ sig) (h : g.1.2 ≠ .tc) : L g = ∅ := if_neg h
/-- and a main thread has ten. -/
theorem L_tc (c : Dev nD) (sm : SemLoc sig) : L ((c : Thread nD τ), sm) = Finset.range 10 := if_pos rfl

/-- A claim of a phase is at that phase's cell and level; -/
theorem due_pos {p : ℕ} {e : Dev nD} {g : GSem nD τ sig} {u : ℕ} (h : 0 < due p e g u) : g = kcell e (pk p) ∧ u = p + 1 := by
  unfold due at h
  rw [tallyAt_apply] at h
  by_contra hn
  rw [if_neg hn] at h
  exact Nat.lt_irrefl 0 h

/-- what is owed later lies at higher levels. -/
theorem later_pos {c : Dev nD} {p : ℕ} {g : GSem nD τ sig} {u : ℕ} (h : 0 < later c p g u) : g.1.2 = .tc ∧ p + 1 < u ∧ u < 10 := by
  unfold later at h
  rw [Finset.sum_apply, Finsupp.finset_sum_apply] at h
  obtain ⟨p', hp', h⟩ := Finset.exists_ne_zero_of_sum_ne_zero (Nat.pos_iff_ne_zero.mp h)
  rw [Finset.sum_apply, Finsupp.finset_sum_apply] at h
  obtain ⟨e, _, h⟩ := Finset.exists_ne_zero_of_sum_ne_zero h
  obtain ⟨rfl, rfl⟩ := due_pos (Nat.pos_of_ne_zero h)
  rw [Finset.mem_Ioo] at hp'
  exact ⟨rfl, by omega, by omega⟩

/-- Everything owed, phase by phase. -/
theorem O₀_eq (c : Dev nD) : O₀ c = ∑ p ∈ Finset.range 9, ∑ e ∈ Finset.univ.erase c, due p e := by
  unfold O₀ owedIn later
  rw [show Finset.range 9 = insert 0 (Finset.Ioo 0 9) from by decide, Finset.sum_insert (by simp)]
  congr 1
  rw [flips_map c, Finset.sum_map, ← flips_all, List.sum_toFinset _ flips_nodup]; rfl

/-- It lies at the levels above staging. -/
theorem O₀_pos {c : Dev nD} {g : GSem nD τ sig} {u : ℕ} (h : 0 < O₀ c g u) : g.1.2 = .tc ∧ 0 < u ∧ u < 10 := by
  rw [O₀_eq, Finset.sum_apply, Finsupp.finset_sum_apply] at h
  obtain ⟨p', hp', h⟩ := Finset.exists_ne_zero_of_sum_ne_zero (Nat.pos_iff_ne_zero.mp h)
  rw [Finset.sum_apply, Finsupp.finset_sum_apply] at h
  obtain ⟨e, _, h⟩ := Finset.exists_ne_zero_of_sum_ne_zero h
  obtain ⟨rfl, rfl⟩ := due_pos (Nat.pos_of_ne_zero h)
  rw [Finset.mem_range] at hp'
  exact ⟨rfl, by omega, by omega⟩

omit [FloatOps F] in
/-- A device owing only later phases may wait at any level up to this phase's. -/
theorem mayOwe_later (c : Dev nD) (p ι : ℕ) (hι : ι ≤ p + 1) (hp : p < 9) (sm : SemLoc sig) :
    (levAts L lv : sProp 𝕄) ⊢ MayOwe (c : Thread nD τ) {(sm, ι)} (later c p) :=
  MayOwe.of_cut (L := L) (lev := lv) ι
    (fun q hq => by rw [Finset.mem_singleton.mp hq, L_tc]; exact Finset.mem_range.mpr (by show ι < 10; omega))
    (fun g u hg => by obtain ⟨h1, h2, h3⟩ := later_pos hg; unfold L; rw [if_pos h1]; exact Finset.mem_range.mpr h3)
    (fun q hq => by rw [Finset.mem_singleton.mp hq]; exact le_rfl)
    (fun g u hg => by obtain ⟨h1, h2, h3⟩ := later_pos hg; show ι < u; omega)

omit [FloatOps F] in
/-- Owing everything, a device may wait on a staging cell. -/
theorem mayWait_stage (c : Dev nD) (sm : SemLoc sig) (O : CellTallies nD τ sig ℕ) (hO : O = O₀ c ∨ O = 0) :
    (levAts L lv : sProp 𝕄) ⊢ MayWait (c : Thread nD τ) sm 0 O := by
  rcases hO with rfl | rfl
  · exact MayOwe.of_cut (L := L) (lev := lv) 0
      (fun q hq => by rw [Finset.mem_singleton.mp hq, L_tc]; exact Finset.mem_range.mpr (by show 0 < 10; omega))
      (fun g u hg => by obtain ⟨h1, h2, h3⟩ := O₀_pos hg; unfold L; rw [if_pos h1]; exact Finset.mem_range.mpr h3)
      (fun q hq => by rw [Finset.mem_singleton.mp hq]; exact le_rfl)
      (fun g u hg => (O₀_pos hg).2.1)
  · rw [MayWait_zero]; iintro -; iempintro

end Cert.KProof

end
-- ==== Proof.Slabs.lean ====
/-
# The slabs of the three buffers: which elements they are, what a load, a store and a copy through them do
-/
module

public import proofs.«01_k».proof.Proof.Protocol

@[expose] public section

noncomputable section

namespace Cert.KProof

open Cert.KernelIdeal Cert.KernelIdeal.Gen
open Idealize.ShloMosaic
open Idealize.ShloMosaic.TcCoe
open Idealize.SL Idealize.SL.RA Idealize.SL.BI

variable {F : FTy → Type} [FloatOps F]

/-- The rectangle of slab `i`. -/
abbrev slabR (off : Fin 3 → Nat) (h : ∀ a, off a + S1x64x512.size a ≤ S32x64x512.size a) : Rect S32x64x512 := Rect.unit (s := S32x64x512) off S1x64x512.size h

omit [FloatOps F] in
/-- The rectangle of slab `i` puts a place of the slab where `at3` says. -/
theorem slab_emb (i : Dev nD) (h) (z : S1x64x512.Idx) : (slabR (slabOff i) h).emb z = at3 i z := by
  funext a
  apply Fin.ext
  show slabOff i a + 1 * (z a).val = _
  fin_cases a
  · show i.val + 1 * (z 0).val = i.val
    have : (z 0).val < 1 := (z 0).isLt
    omega
  · show 0 + 1 * (z 1).val = (z 1).val
    omega
  · show 0 + 1 * (z 2).val = (z 2).val
    omega

/-- An element is its slab's at its place; -/
theorem at3_low (x : S32x64x512.Idx) : at3 (x 0) (low x) = x := by
  funext a; fin_cases a <;> rfl
/-- and a place is that of its element. -/
theorem low_at3 (i : Dev nD) (y : S1x64x512.Idx) : low (at3 i y) = y := by
  funext a; fin_cases a
  · exact (Fin.ext (by have : (y 0).val < 1 := (y 0).isLt; show 0 = (y 0).val; omega))
  · rfl
  · rfl
/-- A slab's elements are those whose first coordinate is its number. -/
theorem mem_slabSet {i : Dev nD} {x : S32x64x512.Idx} : x ∈ slabSet i ↔ (show Fin 32 from x 0) = i := by unfold slabSet; simp
/-- A place of slab `i` lies in it, -/
theorem at3_mem (i : Dev nD) (y : S1x64x512.Idx) : at3 i y ∈ slabSet i := mem_slabSet.mpr rfl
/-- and every element of slab `i` is at its place. -/
theorem mem_slab_at3 {i : Dev nD} {x : S32x64x512.Idx} (h : x ∈ slabSet i) : at3 i (low x) = x := by
  rw [← (show (show Fin 32 from x 0) = i from mem_slabSet.mp h)]; exact at3_low x

/-- The rectangle of slab `i` covers the slab. -/
theorem slab_set (i : Dev nD) (h) : (slabR (slabOff i) h).set = slabSet i := by
  rw [← Rect.map_emb_univ]
  ext x
  constructor
  · intro hx
    obtain ⟨z, -, rfl⟩ := Finset.mem_map.mp hx
    rw [slab_emb]; exact at3_mem i z
  · intro hx
    exact Finset.mem_map.mpr ⟨low x, Finset.mem_univ _, by rw [slab_emb]; exact mem_slab_at3 hx⟩

/-- So does the kernel's view of it, of the activation buffer, -/
theorem xq_set (i : Dev nD) (h) : (slabM xqM (slabOff i) h).view.set = slabSet i := (View.set_reshape _ _).trans ((View.set_slice_whole _ _).trans (slab_set i h))
/-- of the landing buffer, -/
theorem land_set (i : Dev nD) (h) : (slabM landM (slabOff i) h).view.set = slabSet i := (View.set_reshape _ _).trans ((View.set_slice_whole _ _).trans (slab_set i h))
/-- and of the buffer of rounded partial products. -/
theorem sendb_set (i : Dev nD) (h) : (slabM sendbM (slabOff i) h).view.set = slabSet i := (View.set_reshape _ _).trans ((View.set_slice_whole _ _).trans (slab_set i h))

/-- What an all-gather's copy leaves in the slab it fills: the slab it was made from. -/
theorem xq_landed (i : Dev nD) (h h') (fd fs : Vec F S32x64x512 .bf16) (x : S32x64x512.Idx) (hx : x ∈ slabSet i) :
    (slabM xqM (slabOff i) h).view.write (Elt F) fd ((slabM xqM (slabOff i) h').view.read (Elt F) fs) Finset.univ x = fs x := by
  rw [View.write_read_eq_piecewise]
  exact Finset.piecewise_eq_of_mem _ _ _ (by rw [← xq_set i h] at hx; exact hx)

/-- What a scatter's copy leaves in the slab it fills: the slab it was made from, of another number. -/
theorem land_landed (i j : Dev nD) (h h') (fd fs : Vec F S32x64x512 .bf16) (x : S32x64x512.Idx) (hx : x ∈ slabSet i) :
    (slabM landM (slabOff i) h).view.write (Elt F) fd ((slabM sendbM (slabOff j) h').view.read (Elt F) fs) Finset.univ x = fs (at3 j (low x)) := by
  have hx' := hx
  rw [← land_set i h] at hx'
  obtain ⟨y, -, rfl⟩ := Finset.mem_map.mp hx'
  rw [View.write_emb_of_mem _ _ (Finset.mem_univ y), View.read_apply, cast_cast, cast_eq]
  show fs ((slabR (slabOff j) h').emb _) = fs (at3 j (low ((slabR (slabOff i) h).emb _)))
  rw [slab_emb, slab_emb, low_at3]

/-- A load of slab `i` of the partial product. -/
theorem part_read (i : Dev nD) (h) (f : Vec F S32x64x512 .f32) : (partM : Memref sig .tc .vmem S32x64x512 .f32).view.readAt (Elt F) (slabR (slabOff i) h).toLoadRect f = slab i f := by
  funext z
  show f ((slabR (slabOff i) h).emb z) = f (at3 i z)
  rw [slab_emb]

/-- What a store through slab `i` writes to. -/
theorem setOn_univ_slab (i : Dev nD) (h) : ((xqM : Memref sig .tc .vmem S32x64x512 .bf16).access (slabR (slabOff i) h)).setOn Finset.univ = slabSet i :=
  (View.set_slice_whole _ _).trans (slab_set i h)
/-- The landing buffer's slab as a copy addresses it. -/
theorem setOn_univ_land (i : Dev nD) (h) : ((landM : Memref sig .tc .vmem S32x64x512 .bf16).access (slabR (slabOff i) h)).setOn Finset.univ = slabSet i :=
  (View.set_slice_whole _ _).trans (slab_set i h)
/-- A store through slab `i` of the activation buffer; -/
theorem xq_write (i : Dev nD) (h) (f : Vec F S32x64x512 .bf16) (w : Vec F S1x64x512 .bf16) :
    ((xqM : Memref sig .tc .vmem S32x64x512 .bf16).access (slabR (slabOff i) h)).write (Elt F) f w Finset.univ = fun x => if x ∈ slabSet i then w (low x) else f x := by
  funext x
  by_cases hx : x ∈ slabSet i
  · rw [if_pos hx]
    have hx' := hx
    rw [← setOn_univ_slab i h] at hx'
    obtain ⟨y, -, rfl⟩ := Finset.mem_map.mp hx'
    rw [View.write_emb_of_mem _ _ (Finset.mem_univ y)]
    show w y = w (low ((slabR (slabOff i) h).emb y))
    rw [slab_emb, low_at3]
  · rw [if_neg hx, View.write_of_not_mem]
    rw [setOn_univ_slab]; exact hx

/-- of the landing buffer. -/
theorem land_write (i : Dev nD) (h) (f : Vec F S32x64x512 .bf16) (w : Vec F S1x64x512 .bf16) :
    ((landM : Memref sig .tc .vmem S32x64x512 .bf16).access (slabR (slabOff i) h)).write (Elt F) f w Finset.univ = fun x => if x ∈ slabSet i then w (low x) else f x := by
  funext x
  by_cases hx : x ∈ slabSet i
  · rw [if_pos hx]
    have hx' := hx
    rw [← setOn_univ_land i h] at hx'
    obtain ⟨y, -, rfl⟩ := Finset.mem_map.mp hx'
    rw [View.write_emb_of_mem _ _ (Finset.mem_univ y)]
    show w y = w (low ((slabR (slabOff i) h).emb y))
    rw [slab_emb, low_at3]
  · rw [if_neg hx, View.write_of_not_mem]
    rw [setOn_univ_land]; exact hx

end Cert.KProof
end
-- ==== Proof.Steps.lean ====
/-
# One rule per effect of the protocol, each in the form "what is held before, what is held after"

Every rule takes the assertion `Rec m K` (the invariants of all cells at the names `K`, the marks that every cell has begun, the levels),
what the effect uses, and a frame `Fr` it leaves alone.
-/
module

public import proofs.«01_k».proof.Proof.Protocol
public import proofs.«01_k».proof.Proof.Slabs
public import Idealize.ShloMosaic.Lib.Pipeline.BigSepL

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- No loop needs a variant. -/
abbrev 𝒱₀ : Variants := Variants.none

/-- The weakest precondition of a program on device `c`'s core. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Steps

set_option maxRecDepth 20000

variable (m : (ℓ : Loc nD τ sig) → Buf (Elt F) ℓ) (K : Dev nD × Kd → ℕ)

/-- The facts that hold throughout the run: every cell's invariant, that every cell's first round has begun, the levels. -/
def Rec : sProp 𝕄 :=
  iprop((bigSep Finset.univ fun x : Dev nD × Kd => cellInv ER (Rd m) (K x) (kcell x.1 x.2))
    ∗ (bigSep Finset.univ fun x : Dev nD × Kd => reached ER (kcell x.1 x.2) 0) ∗ levAts L lv)

/-- What is recorded stays known. -/
instance Rec_persistent : BI.Persistent (Rec (F := F) m K) := by unfold Rec; infer_instance

/-- It holds every cell's invariant, -/
theorem Rec_inv (e : Dev nD) (kd : Kd) : Rec (F := F) m K ⊢ cellInv ER (Rd m) (K (e, kd)) (kcell e kd) := by
  unfold Rec
  have h : (bigSep Finset.univ fun x : Dev nD × Kd => cellInv ER (Rd (F := F) m) (K x) (kcell x.1 x.2)) ⊢ cellInv ER (Rd m) (K (e, kd)) (kcell e kd) :=
    bigSep_elim (Finset.mem_univ (e, kd))
  iintro ⟨H, -, -⟩
  iapply h; iexact H
/-- that every cell's first round has begun, -/
theorem Rec_reached (e : Dev nD) (kd : Kd) : Rec (F := F) m K ⊢ reached ER (kcell e kd) 0 := by
  unfold Rec
  have h : (bigSep Finset.univ fun x : Dev nD × Kd => (reached ER (kcell x.1 x.2) 0 : sProp 𝕄)) ⊢ reached ER (kcell e kd) 0 :=
    bigSep_elim (Finset.mem_univ (e, kd))
  iintro ⟨-, H, -⟩
  iapply h; iexact H
/-- and the levels. -/
theorem Rec_lev : Rec (F := F) m K ⊢ levAts L lv := by unfold Rec; iintro ⟨-, -, H⟩; iexact H

/-- A rule used under a frame. -/
theorem step {A B Fr P P' : sProp 𝕄} (core : iprop(Rec (F := F) m K ∗ A) ⊢ iprop((B -∗ P') -∗ P)) (h : iprop(Rec (F := F) m K ∗ B ∗ Fr) ⊢ P') :
    iprop(Rec (F := F) m K ∗ A ∗ Fr) ⊢ P := by
  iintro ⟨#HR, HA, HF⟩
  iapply core $$ [HA]
  · isplitr; · iexact HR
    iexact HA
  iintro HB
  iapply h
  isplitr; · iexact HR
  isplitl [HB] <;> iassumption

/-- A change of what is held, under a frame. -/
theorem conv {A B Fr P : sProp 𝕄} (hAB : iprop(Rec (F := F) m K ∗ A) ⊢ B) (h : iprop(Rec (F := F) m K ∗ B ∗ Fr) ⊢ P) :
    iprop(Rec (F := F) m K ∗ A ∗ Fr) ⊢ P := by
  iintro ⟨#HR, HA, HF⟩
  iapply h
  isplitr; · iexact HR
  isplitl [HA]
  · iapply hAB
    isplitr; · iexact HR
    iexact HA
  iexact HF

/-- A change of the first two of what is held. -/
theorem conv₂ {A A' B B' Fr P : sProp 𝕄} (hAB : iprop(Rec (F := F) m K ∗ A ∗ A') ⊢ iprop(B ∗ B')) (h : iprop(Rec (F := F) m K ∗ B ∗ B' ∗ Fr) ⊢ P) :
    iprop(Rec (F := F) m K ∗ A ∗ A' ∗ Fr) ⊢ P := by
  iintro ⟨#HR, HA, HA', HF⟩
  iapply h
  isplitr; · iexact HR
  ihave HB := hAB $$ [HA HA']
  · isplitr; · iexact HR
    isplitl [HA] <;> iassumption
  icases HB with ⟨HB, HB'⟩
  isplitl [HB]; · iexact HB
  isplitl [HB'] <;> iassumption

omit [FloatOps F] in
/-- While only later phases are owed, waiting at this phase's level, or below, is allowed. -/
theorem mayWait_later (c : Dev nD) (p ι : ℕ) (hι : ι ≤ p + 1) (hp : p < 9) (sm : SemLoc sig) :
    (levAts L lv : sProp 𝕄) ⊢ MayWait (c : Thread nD τ) sm ι (later c p) := mayOwe_later c p ι hι hp sm

/-! ## Paying -/

/-- In a phase of signals: what is still owed, and for each flip to come the right to pay with what comes with it. -/
def sigSt (c : Dev nD) (p : ℕ) (l : List (Fin 32)) : sProp 𝕄 :=
  iprop((∃ W, owes (c : Thread nD τ) (owedIn c p l) W)
    ∗ bigSepL l fun j => iprop(dutyTok ER (kcell (px c j) (pk p)) 0 c ∗ pay m (pk p) (px c j) 0 c))

/-- Every other device pays a shared cell. -/
theorem mem_payers_inl (i : Fin 4) (c e : Dev nD) (h : c ≠ e) : c ∈ payers (.inl i) e := Finset.mem_erase.mpr ⟨h, Finset.mem_univ _⟩

/-- One signal of a handshake. -/
theorem signal_step (c : Dev nD) {p : ℕ} (i : Fin 4) (hp : pk p = .inl i) (hr : 0 < rounds (.inl i)) (ha : amt (.inl i) = 1) {dst : Dev nD} {sem : Sem sig} {j : Fin 32} {l : List (Fin 32)}
    {α : Type} {Q : α → sProp 𝕄} {k : PUnit → Prog (TpuEff nD τ sig (Elt F) Λ₀ .tc) α} {Fr : sProp 𝕄}
    (hd : dst = px c j) (hs : SemLoc.reg sem = csem (.inl i)) (hj : j ≠ 0)
    (h : iprop(Rec (F := F) m K ∗ sigSt m c p l ∗ Fr) ⊢ WP c (k ⟨⟩) Q) :
    iprop(Rec (F := F) m K ∗ sigSt m c p (j :: l) ∗ Fr) ⊢ WP c (.op (.semSignal (dst : Thread nD τ) sem 1) k) Q := by
  refine step m K ?_ h
  subst hd
  unfold sigSt
  rw [bigSepL_cons', hp]
  iintro ⟨#HR, ⟨%W, HO⟩, ⟨Ht, Hp⟩, Hl⟩ Hk
  have hg : (((px c j : Dev nD) : Thread nD τ), SemLoc.reg sem) = kcell (px c j) (.inl i) := congrArg (Prod.mk _) hs
  iapply (Rounds.wp_signal 𝒱₀ ER (Rd m) (c : Thread nD τ) none (dst := (px c j : Thread nD τ)) (sem := sem) (κ := K (px c j, .inl i)) (r := 0) (d := c)
      (by rw [hg, duties_at m _ _ hr]; exact mem_payers_inl i _ _ (px_ne c j hj).symm) (by rw [hg, amount_eq, ha]) (p + 1) (O₀ := owedIn c p (j :: l)) (owedIn c p l)
      (by rw [owedIn_cons, hg]; unfold due; rw [hp, ha])) $$ [HO Ht Hp]
  · rw [hg, payload_eq]
    isplitr; · iapply (Rec_inv m K); iexact HR
    isplitl [HO]; · iexact HO
    isplitl [Ht]; · iexact Ht
    isplitl [Hp]; · iexact Hp
    iapply (Rec_reached m K); iexact HR
  iintro HO
  iapply Hk
  isplitl [HO]; · iexists W; iexact HO
  iexact Hl

/-! ## Waiting for a whole round -/

omit [FloatOps F] in
/-- Assertions over a set and over the rest of a larger one make those over the larger. -/
theorem join_sets {T S : Finset (Dev nD)} (h : T ⊆ S) {Φ : Dev nD → sProp 𝕄} : iprop(bigSep T Φ ∗ bigSep (S \ T) Φ) ⊢ bigSep S Φ :=
  Entails.of_eq (bigSep_sdiff_split h).symm

/-- Waiting in phase `p` for `n` more payments: some have come in, with what comes with them. -/
def recvSt (c : Dev nD) (p n : ℕ) : sProp 𝕄 :=
  iprop((∃ W, owes (c : Thread nD τ) (later c p) W) ∗ cred (tallyAt (kcell c (pk p)) (p + 1) (n * amt (pk p)))
    ∗ ∃ T, ⌜T ⊆ Finset.univ.erase c⌝ ∗ atPos ER (kcell c (pk p)) (pr p) T ((31 - n) * amt (pk p)) ∗ bigSep T fun d => pay m (pk p) c (pr p) d)

/-- All payments of phase `p` have come in. -/
def recvd (c : Dev nD) (p : ℕ) : sProp 𝕄 :=
  iprop((∃ W, owes (c : Thread nD τ) (later c p) W) ∗ atPos ER (kcell c (pk p)) (pr p + 1) ∅ 0 ∗ reached ER (kcell c (pk p)) (pr p + 1)
    ∗ bigSep (Finset.univ.erase c) fun d => pay m (pk p) c (pr p) d)

/-- A phase's cell is a shared one. -/
theorem pk_inl (p : ℕ) : ∃ i : Fin 4, pk p = .inl i := by unfold pk; split <;> exact ⟨_, rfl⟩

/-- The last wait of a round, for all that is still to come. -/
theorem wait_last (c : Dev nD) {p n : ℕ} (hp : p < 9) (hr : pr p < rounds (pk p)) (hn : n ≤ 31) {sm : SemLoc sig} {k' : ℕ} (hs : sm = csem (pk p)) (hk' : k' = n * amt (pk p))
    {w : TpuEff nD τ sig (Elt F) Λ₀ .tc PUnit} (hw : ∀ T : PUnit → sProp 𝕄, wpE (defs₀ (F := F)) 𝒱₀ (c : Thread nD τ) none Set.univ w T = waitSpec (c : Thread nD τ) Set.univ sm k' T)
    {α : Type} {Q : α → sProp 𝕄} {k : PUnit → Prog (TpuEff nD τ sig (Elt F) Λ₀ .tc) α} {Fr : sProp 𝕄}
    (h : iprop(Rec (F := F) m K ∗ recvd m c p ∗ Fr) ⊢ WP c (k ⟨⟩) Q) :
    iprop(Rec (F := F) m K ∗ recvSt m c p n ∗ Fr) ⊢ WP c (.op w k) Q := by
  refine step m K ?_ h
  subst hs hk'
  obtain ⟨i, hi⟩ := pk_inl p
  unfold recvSt recvd
  iintro ⟨#HR, ⟨%W, HO⟩, Hc, %T, %hT, Hat, HT⟩ Hk
  ihave #Hlev := (Rec_lev m K) $$ HR
  have hd : (Rd (F := F) m).duties (kcell c (pk p)) (pr p) = Finset.univ.erase c := by rw [duties_at m c _ hr, hi]; rfl
  iapply (Rounds.wp_wait_rest_token 𝒱₀ ER (Rd m) (c : Thread nD τ) none (κ := K (c, pk p)) hw (Set.mem_univ _) (p + 1) (O := later c p) (W := W)
      (R := pr p) (m := (31 - n) * amt (pk p)) (T := T) (by rw [← Nat.add_mul, Nat.sub_add_cancel hn, hi, expect_inl m c i (by rw [← hi]; exact hr)])) $$ [HO Hc Hat]
  · isplitr; · iapply (Rec_inv m K); iexact HR
    isplitl [Hc]; · iexact Hc
    isplitl [HO]; · iexact HO
    isplitr; · iapply (mayWait_later c p (p + 1) le_rfl hp (csem (pk p))); iexact Hlev
    iexact Hat
  iintro ⟨HO, Hat, Hr, Hpay⟩
  iapply Hk
  isplitl [HO]; · iexists _; iexact HO
  isplitl [Hat]; · iexact Hat
  isplitl [Hr]; · iexact Hr
  iapply (join_sets hT)
  isplitl [HT]; · iexact HT
  rw [hd]
  iapply (Entails.of_eq (bigSep_congr fun d _ => payload_eq m c (pk p) (pr p) d)); iexact Hpay

/-- An earlier wait of the round, for one payment. -/
theorem wait_mid (c : Dev nD) {p n : ℕ} (hp : p < 9) (hr : pr p < rounds (pk p)) (hn : n < 31) {sm : SemLoc sig} {k' : ℕ} (hs : sm = csem (pk p)) (hk' : k' = amt (pk p))
    {w : TpuEff nD τ sig (Elt F) Λ₀ .tc PUnit} (hw : ∀ T : PUnit → sProp 𝕄, wpE (defs₀ (F := F)) 𝒱₀ (c : Thread nD τ) none Set.univ w T = waitSpec (c : Thread nD τ) Set.univ sm k' T)
    {α : Type} {Q : α → sProp 𝕄} {k : PUnit → Prog (TpuEff nD τ sig (Elt F) Λ₀ .tc) α} {Fr : sProp 𝕄}
    (h : iprop(Rec (F := F) m K ∗ recvSt m c p n ∗ Fr) ⊢ WP c (k ⟨⟩) Q) :
    iprop(Rec (F := F) m K ∗ recvSt m c p (n + 1) ∗ Fr) ⊢ WP c (.op w k) Q := by
  refine step m K ?_ h
  subst hs hk'
  obtain ⟨i, hi⟩ := pk_inl p
  unfold recvSt
  rw [Nat.add_mul, Nat.one_mul, ← tallyAt_add]
  iintro ⟨#HR, ⟨%W, HO⟩, Hc, %T, %hT, Hat, HT⟩ Hk
  ihave Hc := (cred_add _ _).1 $$ Hc
  icases Hc with ⟨Hc, Hc1⟩
  ihave #Hlev := (Rec_lev m K) $$ HR
  have hd : (Rd (F := F) m).duties (kcell c (pk p)) (pr p) = Finset.univ.erase c := by rw [duties_at m c _ hr, hi]; rfl
  iapply (Rounds.wp_wait 𝒱₀ ER (Rd m) (c : Thread nD τ) none (κ := K (c, pk p)) hw (Set.mem_univ _) {(csem (pk p), p + 1)} (cr := Finsupp.single (p + 1) (amt (pk p))) (O := later c p) (W := W)
      (R := pr p) (m := (31 - (n + 1)) * amt (pk p)) (T := T) (Util.total_single _ _) (image_single_subset _ _ _)) $$ [HO Hc1 Hat]
  · isplitr; · iapply (Rec_inv m K); iexact HR
    isplitl [Hc1]; · iexact Hc1
    isplitl [HO]; · iexact HO
    isplitr; · iapply (mayOwe_later c p (p + 1) le_rfl hp (csem (pk p))); iexact Hlev
    iexact Hat
  iintro %S ⟨%hS, HO, Hat, Hpay⟩
  iapply Hk
  isplitl [HO]; · iexists _; iexact HO
  isplitl [Hc]; · iexact Hc
  iexists S
  isplitr; · ipureintro; rw [← hd]; exact hS.2.1
  isplitl [Hat]
  · rw [show (31 - n) * amt (pk p) = (31 - (n + 1)) * amt (pk p) + amt (pk p) from by rw [show 31 - n = 31 - (n + 1) + 1 from by omega, Nat.add_mul, Nat.one_mul]]
    iexact Hat
  iapply (join_sets hS.1)
  isplitl [HT]; · iexact HT
  iapply (Entails.of_eq (bigSep_congr fun d _ => payload_eq m c (pk p) (pr p) d)); iexact Hpay

/-! ## Taking back what was lent to the copies -/

/-- After a phase of copies: the departures still to wait for, and those waited for. -/
def drSt (c : Dev nD) (p ρ : ℕ) (l dn : List (Fin 31)) : sProp 𝕄 :=
  iprop((∃ W, owes (c : Thread nD τ) (later c p) W)
    ∗ (bigSepL l fun k => iprop(atPos ER (kcell c (kSn k)) ρ ∅ 0 ∗ cred (tallyAt (kcell c (kSn k)) 0 N)))
    ∗ bigSepL dn fun k => iprop((atPos ER (kcell c (kSn k)) (ρ + 1) ∅ 0 ∗ reached ER (kcell c (kSn k)) (ρ + 1)) ∗ sentPay m ρ c k))

/-- The wait for one departure. -/
theorem drain_step (c : Dev nD) {p ρ : ℕ} {kk : Fin 31} {l dn : List (Fin 31)} (hp : p < 9) (hρ : ρ < 7) {sm : SemLoc sig} {k' : ℕ} (hs : sm = csem (kSn kk)) (hk' : k' = N)
    {w : TpuEff nD τ sig (Elt F) Λ₀ .tc PUnit} (hw : ∀ T : PUnit → sProp 𝕄, wpE (defs₀ (F := F)) 𝒱₀ (c : Thread nD τ) none Set.univ w T = waitSpec (c : Thread nD τ) Set.univ sm k' T)
    {α : Type} {Q : α → sProp 𝕄} {k : PUnit → Prog (TpuEff nD τ sig (Elt F) Λ₀ .tc) α} {Fr : sProp 𝕄}
    (h : iprop(Rec (F := F) m K ∗ drSt m c p ρ l (kk :: dn) ∗ Fr) ⊢ WP c (k ⟨⟩) Q) :
    iprop(Rec (F := F) m K ∗ drSt m c p ρ (kk :: l) dn ∗ Fr) ⊢ WP c (.op w k) Q := by
  refine step m K ?_ h
  subst hs hk'
  unfold drSt
  rw [bigSepL_cons', bigSepL_cons']
  iintro ⟨#HR, ⟨%W, HO⟩, ⟨⟨Hat, Hc⟩, Hl⟩, Hdn⟩ Hk
  ihave #Hlev := (Rec_lev m K) $$ HR
  iapply (Rounds.wp_wait_rest_token 𝒱₀ ER (Rd m) (c : Thread nD τ) none (κ := K (c, kSn kk)) hw (Set.mem_univ _) 0 (O := later c p) (W := W)
      (R := ρ) (m := 0) (T := ∅) (by rw [Nat.zero_add]; exact (expect_inr m c kk hρ).symm)) $$ [HO Hc Hat]
  · isplitr; · iapply (Rec_inv m K); iexact HR
    isplitl [Hc]; · iexact Hc
    isplitl [HO]; · iexact HO
    isplitr; · iapply (mayWait_later c p 0 (Nat.zero_le _) hp (csem (kSn kk))); iexact Hlev
    iexact Hat
  rw [show (Rd (F := F) m).duties ((c : Thread nD τ), csem (kSn kk)) ρ = {c} from duties_at m c (kSn kk) hρ, Finset.sdiff_empty, bigSep_singleton]
  rw [show (Rd (F := F) m).payload ((c : Thread nD τ), csem (kSn kk)) ρ c = sentPay m ρ c kk from payload_eq m c (kSn kk) ρ c]
  iintro ⟨HO, Hat, Hr, Hpay⟩
  iapply Hk
  isplitl [HO]; · iexists _; iexact HO
  isplitl [Hl]; · iexact Hl
  isplitl [Hat Hr Hpay]
  · isplitl [Hat Hr]
    · isplitl [Hat] <;> iassumption
    iexact Hpay
  iexact Hdn

/-! ## Copies -/

/-- In a phase of copies: what is still owed, what each copy to come needs, and the credit for each departure so far. -/
def sdSt (c : Dev nD) (p : ℕ) (it : Fin 31 → sProp 𝕄) (l dn : List (Fin 31)) : sProp 𝕄 :=
  iprop((∃ W, owes (c : Thread nD τ) (owedIn c p (l.map jo)) W) ∗ bigSepL l it ∗ bigSepL dn fun k => cred (tallyAt (kcell c (kSn k)) 0 N))

/-- What the `k`-th copy of all-gather `r` needs. -/
def agIt (c : Dev nD) (r : ℕ) (k : Fin 31) : sProp 𝕄 :=
  iprop(xqS c (qk k) c (XQ m r) ∗ handA r c (peer c k) ∗ handR r (peer c k) c
    ∗ (dutyTok ER (kcell c (kSn k)) (2 * r) c ∗ reached ER (kcell c (kSn k)) (2 * r)) ∗ dutyTok ER (kcell (peer c k) kAg) r c)
/-- What the `k`-th copy of scatter `r` needs. -/
def rsIt (c : Dev nD) (r : ℕ) (k : Fin 31) : sProp 𝕄 :=
  iprop(sendS c (peer c k) (SV m r c) ∗ handR r c (peer c k) ∗ handA (r + 1) (peer c k) c
    ∗ (dutyTok ER (kcell c (kSn k)) (2 * r + 1) c ∗ reached ER (kcell c (kSn k)) (2 * r + 1)) ∗ dutyTok ER (kcell (peer c k) kRs) r c)

/-- The phase of gather `r` pays the gathers' cell, -/
theorem pk_ag {r : ℕ} (h : r < 4) : pk (2 * r + 1) = kAg := by obtain _ | _ | _ | _ | r := r <;> first | rfl | omega
/-- that of scatter `r` the scatters' cell; -/
theorem pk_rs {r : ℕ} (h : r < 3) : pk (2 * r + 2) = kRs := by obtain _ | _ | _ | _ | r := r <;> first | rfl | omega
/-- in round `r` of it, -/
theorem pr_ag {r : ℕ} (h : r < 4) : pr (2 * r + 1) = r := by obtain _ | _ | _ | _ | r := r <;> first | rfl | omega
/-- and likewise. -/
theorem pr_rs {r : ℕ} (h : r < 3) : pr (2 * r + 2) = r := by obtain _ | _ | _ | _ | r := r <;> first | rfl | omega

/-- The activations gathered: a copy's slab holds what it should. -/
theorem xq_payload (n c : Dev nD) (h h') (fd : Vec F S32x64x512 .bf16) (f : Vec F S32x64x512 .bf16) :
    (((n : Thread nD τ).loc cc0_scratch0) ↦[slabSet c]{fullShare} ((slabM xqM (slabOff c) h).view.write (Elt F) fd ((slabM xqM (slabOff c) h').view.read (Elt F) f) Finset.univ) : sProp 𝕄)
      = xqS n fullShare c f :=
  pointsTo_congr fun x hx => xq_landed c h h' fd f x hx

/-- The partial products scattered: a copy's slab holds what it should. -/
theorem land_payload (n c : Dev nD) (hne : c ≠ n) (r : ℕ) (h h') (fd : Vec F S32x64x512 .bf16) :
    (((n : Thread nD τ).loc cc0_scratch2) ↦[slabSet c]{fullShare} ((slabM landM (slabOff c) h).view.write (Elt F) fd ((slabM sendbM (slabOff n) h').view.read (Elt F) (SV m r c)) Finset.univ) : sProp 𝕄)
      = landS n c (LV m r n) :=
  pointsTo_congr fun x hx => by
    rw [land_landed c n h h' fd (SV m r c) x hx]
    have e : (show Fin 32 from x 0) = c := mem_slabSet.mp hx
    show svOf m (XQ m r) r c (at3 n (low x)) = if (show Fin 32 from x 0) = n then _ else svOf m (XQ m r) r (x 0) (at3 n (low x))
    rw [if_neg (by rw [e]; exact hne)]
    show _ = svOf m (XQ m r) r (show Fin 32 from x 0) (at3 n (low x))
    rw [e]

/-- One copy of an all-gather. -/
theorem ag_step (c : Dev nD) {r : ℕ} (hr : r < 4) {kk : Fin 31} {l dn : List (Fin 31)} {n : Dev nD} {off off' : Fin 3 → Nat} {h₁ h₂}
    (hn : n = peer c kk) (ho : off = slabOff c) (ho' : off' = slabOff c) {sS : DmaSem sig} (hs : SemLoc.dma sS = csem (kSn kk))
    {hsc : (slabM xqM off' h₂ : Memref sig (Dev.tc n : Thread nD τ).2.kind .vmem S64x512 .bf16).view.ref.isScScratch = false}
    {hsrc : (slabM xqM off h₁).view.WordExact} {hdst : (slabM xqM off' h₂).view.WordExact}
    {hsem : DmaTarget.Typed .vmem (.dma (cc0_scratch6 : DmaSems sig S_).sem) (.remote (Dev.tc n : Thread nD τ) (slabM xqM off' h₂) (.dma sS) hsc)}
    {α : Type} {Q : α → sProp 𝕄} {k : PUnit → Prog (TpuEff nD τ sig (Elt F) Λ₀ .tc) α} {Fr : sProp 𝕄}
    (h : iprop(Rec (F := F) m K ∗ sdSt c (2 * r + 1) (agIt m c r) l (kk :: dn) ∗ Fr) ⊢ WP c (k ⟨⟩) Q) :
    iprop(Rec (F := F) m K ∗ sdSt c (2 * r + 1) (agIt m c r) (kk :: l) dn ∗ Fr)
      ⊢ WP c (.op (.enqueueDma (slabM xqM off h₁) (.remote (Dev.tc n : Thread nD τ) (slabM xqM off' h₂) (.dma sS) hsc) (.dma (cc0_scratch6 : DmaSems sig S_).sem) hsrc hdst hsem) k) Q := by
  refine step m K ?_ h
  subst hn ho ho'
  unfold sdSt
  rw [bigSepL_cons', bigSepL_cons', List.map_cons]
  unfold agIt handA
  have hg : ((c : Thread nD τ), SemLoc.dma sS) = kcell c (kSn kk) := congrArg (Prod.mk _) hs
  iintro ⟨#HR, ⟨%W, HO⟩, ⟨⟨Hx, ⟨⟨%fd, Hd⟩, Hr2⟩, HF, ⟨Ht1, Hr1⟩, Ht2⟩, Hl⟩, Hdn⟩ Hk
  iapply (Rounds.wp_send_pointsTo_with 𝒱₀ ER (Rd m) (c : Thread nD τ) none (κ₁ := K (c, kSn kk)) (κ₂ := K (peer c kk, kAg))
      (c' := (Dev.tc (peer c kk) : Thread nD τ)) (src := slabM xqM (slabOff c) h₁) (dst := slabM xqM (slabOff c) h₂) (sS := .dma sS) (sem := .dma (cc0_scratch6 : DmaSems sig S_).sem)
      (q := qk kk) (fs := XQ m r) (fd := fd) (F := handR r (peer c kk) c) (r₁ := 2 * r) (r₂ := r) (d₁ := c) (d₂ := c)
      (by rw [hg, duties_at m c (kSn kk) (show 2 * r < 7 by omega)]; exact Finset.mem_singleton_self _)
      (by rw [show ((Dev.tc (peer c kk) : Thread nD τ), SemLoc.dma (cc0_scratch6 : DmaSems sig S_).sem) = kcell (peer c kk) kAg from rfl, duties_at m _ kAg hr]
          exact mem_payers_inl 1 _ _ (peer_ne c kk).symm)
      (2 * r + 1 + 1) 0 N rfl (by rw [hg, amount_eq]; rfl) (amount_eq m (peer c kk) kAg r c)
      (O₀ := owedIn c (2 * r + 1) (jo kk :: l.map jo)) (owedIn c (2 * r + 1) (l.map jo))
      (by rw [owedIn_cons]; unfold due; rw [pk_ag hr]; rfl) (W := W)
      (by rw [hg, payload_eq]; show _ ⊢ sentPay m (2 * r) c kk; unfold sentPay xqS
          rw [if_pos (by omega), show 2 * r / 2 = r by omega, xq_set])
      (by rw [show (Rd (F := F) m).payload ((Dev.tc (peer c kk) : Thread nD τ), SemLoc.dma (cc0_scratch6 : DmaSems sig S_).sem) r c = _ from payload_eq m (peer c kk) kAg r c]
          show _ ⊢ iprop(xqS (peer c kk) fullShare c (XQ m r) ∗ handR r (peer c kk) c)
          rw [xq_set]; exact sep_mono_left (Entails.of_eq (xq_payload (peer c kk) c _ _ fd (XQ m r))))) $$ [Hx Hd HF HO Ht1 Hr1 Ht2 Hr2]
  · rw [hg, xq_set]
    isplitr; · iapply (Rec_inv m K); iexact HR
    isplitr; · iapply (Rec_inv m K (peer c kk) kAg); iexact HR
    isplitl [Hx]; · unfold xqS; iexact Hx
    isplitl [Hd HF]
    · isplitl [Hd]; · unfold xqS; iexact Hd
      iexact HF
    isplitl [HO]; · iexact HO
    isplitl [Ht1]; · iexact Ht1
    isplitl [Hr1]; · iexact Hr1
    isplitl [Ht2]; · iexact Ht2
    iexact Hr2
  rw [hg]
  iintro ⟨Hc, HO⟩
  iapply Hk
  isplitl [HO]; · iexists W; iexact HO
  isplitl [Hl]; · iexact Hl
  isplitl [Hc] <;> iassumption

/-- One copy of a scatter. -/
theorem rs_step (c : Dev nD) {r : ℕ} (hr : r < 3) {kk : Fin 31} {l dn : List (Fin 31)} {n : Dev nD} {off off' : Fin 3 → Nat} {h₁ h₂}
    (hn : n = peer c kk) (ho : off = slabOff (peer c kk)) (ho' : off' = slabOff c) {sS : DmaSem sig} (hs : SemLoc.dma sS = csem (kSn kk))
    {hsc : (slabM landM off' h₂ : Memref sig (Dev.tc n : Thread nD τ).2.kind .vmem S64x512 .bf16).view.ref.isScScratch = false}
    {hsrc : (slabM sendbM off h₁).view.WordExact} {hdst : (slabM landM off' h₂).view.WordExact}
    {hsem : DmaTarget.Typed .vmem (.dma (cc0_scratch5 : DmaSems sig S_).sem) (.remote (Dev.tc n : Thread nD τ) (slabM landM off' h₂) (.dma sS) hsc)}
    {α : Type} {Q : α → sProp 𝕄} {k : PUnit → Prog (TpuEff nD τ sig (Elt F) Λ₀ .tc) α} {Fr : sProp 𝕄}
    (h : iprop(Rec (F := F) m K ∗ sdSt c (2 * r + 2) (rsIt m c r) l (kk :: dn) ∗ Fr) ⊢ WP c (k ⟨⟩) Q) :
    iprop(Rec (F := F) m K ∗ sdSt c (2 * r + 2) (rsIt m c r) (kk :: l) dn ∗ Fr)
      ⊢ WP c (.op (.enqueueDma (slabM sendbM off h₁) (.remote (Dev.tc n : Thread nD τ) (slabM landM off' h₂) (.dma sS) hsc) (.dma (cc0_scratch5 : DmaSems sig S_).sem) hsrc hdst hsem) k) Q := by
  refine step m K ?_ h
  subst hn ho ho'
  unfold sdSt
  rw [bigSepL_cons', bigSepL_cons', List.map_cons]
  unfold rsIt
  rw [show (handR (F := F) r c (peer c kk)) = iprop((∃ f, landS (F := F) (peer c kk) c f) ∗ reached ER (kcell (peer c kk) kRs) r) from if_pos hr]
  have hg : ((c : Thread nD τ), SemLoc.dma sS) = kcell c (kSn kk) := congrArg (Prod.mk _) hs
  iintro ⟨#HR, ⟨%W, HO⟩, ⟨⟨Hx, ⟨⟨%fd, Hd⟩, Hr2⟩, HF, ⟨Ht1, Hr1⟩, Ht2⟩, Hl⟩, Hdn⟩ Hk
  iapply (Rounds.wp_send_pointsTo_with 𝒱₀ ER (Rd m) (c : Thread nD τ) none (κ₁ := K (c, kSn kk)) (κ₂ := K (peer c kk, kRs))
      (c' := (Dev.tc (peer c kk) : Thread nD τ)) (src := slabM sendbM (slabOff (peer c kk)) h₁) (dst := slabM landM (slabOff c) h₂) (sS := .dma sS) (sem := .dma (cc0_scratch5 : DmaSems sig S_).sem)
      (q := fullShare) (fs := SV m r c) (fd := fd) (F := handA (r + 1) (peer c kk) c) (r₁ := 2 * r + 1) (r₂ := r) (d₁ := c) (d₂ := c)
      (by rw [hg, duties_at m c (kSn kk) (show 2 * r + 1 < 7 by omega)]; exact Finset.mem_singleton_self _)
      (by rw [show ((Dev.tc (peer c kk) : Thread nD τ), SemLoc.dma (cc0_scratch5 : DmaSems sig S_).sem) = kcell (peer c kk) kRs from rfl, duties_at m _ kRs hr]
          exact mem_payers_inl 2 _ _ (peer_ne c kk).symm)
      (2 * r + 2 + 1) 0 N rfl (by rw [hg, amount_eq]; rfl) (amount_eq m (peer c kk) kRs r c)
      (O₀ := owedIn c (2 * r + 2) (jo kk :: l.map jo)) (owedIn c (2 * r + 2) (l.map jo))
      (by rw [owedIn_cons]; unfold due; rw [pk_rs hr]; rfl) (W := W)
      (by rw [hg, payload_eq]; show _ ⊢ sentPay m (2 * r + 1) c kk; unfold sentPay sendS
          rw [if_neg (by omega), show (2 * r + 1) / 2 = r by omega, sendb_set])
      (by rw [show (Rd (F := F) m).payload ((Dev.tc (peer c kk) : Thread nD τ), SemLoc.dma (cc0_scratch5 : DmaSems sig S_).sem) r c = _ from payload_eq m (peer c kk) kRs r c]
          show _ ⊢ iprop(landS (peer c kk) c (LV m r (peer c kk)) ∗ handA (r + 1) (peer c kk) c)
          rw [land_set]; exact sep_mono_left (Entails.of_eq (land_payload m (peer c kk) c (peer_ne c kk).symm r _ _ fd)))) $$ [Hx Hd HF HO Ht1 Hr1 Ht2 Hr2]
  · rw [hg, sendb_set, land_set]
    isplitr; · iapply (Rec_inv m K); iexact HR
    isplitr; · iapply (Rec_inv m K (peer c kk) kRs); iexact HR
    isplitl [Hx]; · unfold sendS; iexact Hx
    isplitl [Hd HF]
    · isplitl [Hd]; · unfold landS; iexact Hd
      iexact HF
    isplitl [HO]; · iexact HO
    isplitl [Ht1]; · iexact Ht1
    isplitl [Hr1]; · iexact Hr1
    isplitl [Ht2]; · iexact Ht2
    iexact Hr2
  rw [hg]
  iintro ⟨Hc, HO⟩
  iapply Hk
  isplitl [HO]; · iexists W; iexact HO
  isplitl [Hl]; · iexact Hl
  isplitl [Hc] <;> iassumption

end Steps

end Cert.KProof

end
-- ==== Proof.States.lean ====
/-
# What a device holds between the parts of its body, and how one part's leavings are the next part's needs
-/
module

public import proofs.«01_k».proof.Proof.Steps
public import Idealize.SL.BI.BigOpNat
public import Idealize.ShloMosaic.Lib.Ring

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section States

set_option maxRecDepth 20000

/-! ## Listings -/

omit [FloatOps F] in
/-- Over the other devices, listed by copies. -/
theorem peers_eq (c : Dev nD) (Φ : Dev nD → sProp 𝕄) : bigSep (Finset.univ.erase c) Φ = bigSep Finset.univ fun k : Fin 31 => Φ (peer c k) := by
  rw [peers_map, bigSep_map]; rfl
omit [FloatOps F] in
/-- Over the copies, listed in order; -/
theorem ks_eq (Φ : Fin 31 → sProp 𝕄) : bigSepL ks Φ = bigSep Finset.univ Φ :=
  (bigSep_univ_eq_bigSepL ks (by decide) (by decide) Φ).symm
omit [FloatOps F] in
/-- in the opposite order. -/
theorem ksr_eq (Φ : Fin 31 → sProp 𝕄) : bigSepL ks.reverse Φ = bigSep Finset.univ Φ :=
  (bigSep_univ_eq_bigSepL ks.reverse (by decide) (by decide) Φ).symm
omit [FloatOps F] in
/-- Over the other devices, listed by flips. -/
theorem flips_eq (c : Dev nD) (Φ : Dev nD → sProp 𝕄) : bigSepL flips (fun j => Φ (px c j)) = bigSep (Finset.univ.erase c) Φ := by
  rw [flips_map c, bigSep_map, ← flips_all, bigSep_eq_bigSepL flips flips_nodup]; rfl

omit [FloatOps F] in
/-- What holds of each holds of all. -/
theorem each {I : Type} {s : Finset I} {Φ Ψ : I → sProp 𝕄} (h : ∀ i, Φ i ⊢ Ψ i) : bigSep s Φ ⊢ bigSep s Ψ := bigSep_mono fun i _ => h i

/-! ## Pieces -/

/-- Cell `kd` of device `c` stands at the start of round `r`; -/
abbrev posR (c : Dev nD) (kd : Kd) (r : ℕ) : sProp 𝕄 := atPos ER (kcell c kd) r ∅ 0
/-- round `r` of it has begun. -/
abbrev rch (c : Dev nD) (kd : Kd) (r : ℕ) : sProp 𝕄 := reached ER (kcell c kd) r

/-- The rights to pay every other device in phase `p`; -/
def phTok (c : Dev nD) (p : ℕ) : sProp 𝕄 := bigSep (Finset.univ.erase c) fun e => dutyTok ER (kcell e (pk p)) (pr p) c
/-- the credit for all payments that come in. -/
def phCred (c : Dev nD) (p : ℕ) : sProp 𝕄 := cred (tallyAt (kcell c (pk p)) (p + 1) (31 * amt (pk p)))
/-- Both, for the phases from `p` on. -/
def Fut (c : Dev nD) (p : ℕ) : sProp 𝕄 := bigSep (Finset.Ico p 9) fun p => iprop(phTok c p ∗ phCred c p)
/-- The rights of a device's own copies to report departure in round `ρ`; -/
def snTok (c : Dev nD) (ρ : ℕ) : sProp 𝕄 := bigSep Finset.univ fun k => dutyTok ER (kcell c (kSn k)) ρ c
/-- for the rounds from `ρ` on. -/
def SnFut (c : Dev nD) (ρ : ℕ) : sProp 𝕄 := bigSep (Finset.Ico ρ 7) (snTok c)
/-- Where the departure cells stand; -/
def snPos (c : Dev nD) (ρ : ℕ) : sProp 𝕄 := bigSep Finset.univ fun k => posR c (kSn k) ρ
/-- that their round has begun; -/
def snRch (c : Dev nD) (ρ : ℕ) : sProp 𝕄 := bigSep Finset.univ fun k => rch c (kSn k) ρ
/-- the credit to wait for every departure. -/
def snCred (c : Dev nD) (dn : List (Fin 31)) : sProp 𝕄 := bigSepL dn fun k => cred (tallyAt (kcell c (kSn k)) 0 N)

omit [FloatOps F] in
/-- The next phase's rights and credit, taken out. -/
theorem Fut_split (c : Dev nD) (p : ℕ) (h : p < 9) : Fut (F := F) c p ⊢ iprop((phTok c p ∗ phCred c p) ∗ Fut c (p + 1)) := by
  unfold Fut; rw [bigSep_Ico_succ_bot h]
omit [FloatOps F] in
/-- The next round's departures, taken out. -/
theorem SnFut_split (c : Dev nD) (ρ : ℕ) (h : ρ < 7) : SnFut (F := F) c ρ ⊢ iprop(snTok c ρ ∗ SnFut c (ρ + 1)) := by
  unfold SnFut; rw [bigSep_Ico_succ_bot h]

/-- Whole buffers held: gathered activations, -/
abbrev xqW (c : Dev nD) (f : Vec F S32x64x512 .bf16) : sProp 𝕄 := ((c : Thread nD τ).loc cc0_scratch0) ↦{fullShare} f
/-- partial product, -/
abbrev partW (c : Dev nD) (f : Vec F S32x64x512 .f32) : sProp 𝕄 := ((c : Thread nD τ).loc cc0_scratch1) ↦{fullShare} f
/-- landing place, -/
abbrev landW (c : Dev nD) (f : Vec F S32x64x512 .bf16) : sProp 𝕄 := ((c : Thread nD τ).loc cc0_scratch2) ↦{fullShare} f
/-- products to send; -/
abbrev sendW (c : Dev nD) (f : Vec F S32x64x512 .bf16) : sProp 𝕄 := ((c : Thread nD τ).loc cc0_scratch3) ↦{fullShare} f
/-- the same at any contents. -/
abbrev partAny (c : Dev nD) : sProp 𝕄 := iprop(∃ f, partW (F := F) c f)
/-- Likewise. -/
abbrev sendAny (c : Dev nD) : sProp 𝕄 := iprop(∃ f, sendW (F := F) c f)
/-- The landing slabs of the other devices. -/
def landOth (c : Dev nD) : sProp 𝕄 := bigSep (Finset.univ.erase c) fun e => iprop(∃ f, landS (F := F) c e f)
/-- Contents whose slabs are the zero the kernel writes. -/
def zl : Vec F S32x64x512 .bf16 := fun x => k0_pay1 (F := F) (low x)
/-- The own landing slab, zeroed. -/
abbrev landOwn (c : Dev nD) : sProp 𝕄 := landS (F := F) c c zl
/-- What of the landing slabs stays behind when gather `r` goes out: all of them once no scatter follows. -/
def landKeep (c : Dev nD) (r : ℕ) : sProp 𝕄 := if r < 3 then iprop(emp) else landOth (F := F) c

/-! ## Whole buffers and their slabs -/

/-- Different slabs share no element; -/
theorem slabs_disj (i j : Dev nD) (h : i ≠ j) : Disjoint (slabSet i) (slabSet j) := by
  rw [Finset.disjoint_left]
  intro x hi hj
  exact h ((mem_slabSet.mp hi).symm.trans (mem_slabSet.mp hj))
/-- together they are the buffer. -/
theorem slabs_cover : (Finset.univ : Finset (Dev nD)).biUnion slabSet = Finset.univ := by
  ext x
  simp only [Finset.mem_biUnion, Finset.mem_univ, true_and, iff_true]
  exact ⟨(show Fin 32 from x 0), mem_slabSet.mpr rfl⟩

omit [FloatOps F] in
/-- Assertions over all devices: one device's and the others'. -/
theorem own_oth (c : Dev nD) (Φ : Dev nD → sProp 𝕄) : bigSep Finset.univ Φ = iprop(Φ c ∗ bigSep (Finset.univ.erase c) Φ) :=
  bigSep_erase (Finset.mem_univ c)

omit [FloatOps F] in
/-- The activation buffer whole is its slabs, the own one first; -/
theorem xq_slabs (c : Dev nD) (f : Vec F S32x64x512 .bf16) :
    xqW c f = iprop(xqS c fullShare c f ∗ bigSep (Finset.univ.erase c) fun e => xqS c fullShare e f) :=
  (Ring.pointsTo_blocks (ℓ := (c : Thread nD τ).loc cc0_scratch0) slabSet slabs_disj slabs_cover f).trans (own_oth c _)
omit [FloatOps F] in
/-- so is the landing buffer, -/
theorem land_slabs (c : Dev nD) (f : Vec F S32x64x512 .bf16) :
    landW c f = iprop(landS c c f ∗ bigSep (Finset.univ.erase c) fun e => landS c e f) :=
  (Ring.pointsTo_blocks (ℓ := (c : Thread nD τ).loc cc0_scratch2) slabSet slabs_disj slabs_cover f).trans (own_oth c _)
omit [FloatOps F] in
/-- and the buffer of rounded partial products. -/
theorem send_slabs (c : Dev nD) (f : Vec F S32x64x512 .bf16) :
    sendW c f = iprop(sendS c c f ∗ bigSep (Finset.univ.erase c) fun e => sendS c e f) :=
  (Ring.pointsTo_blocks (ℓ := (c : Thread nD τ).loc cc0_scratch3) slabSet slabs_disj slabs_cover f).trans (own_oth c _)

omit [FloatOps F] in
/-- The landing slabs, whatever they hold, are the landing buffer. -/
theorem land_join (c : Dev nD) (f : Vec F S32x64x512 .bf16) : iprop(landS c c f ∗ landOth c) ⊢ iprop(∃ g, landW c g) := by
  refine BIBase.Entails.trans ?_ (Ring.pointsTo_blocks_join_exists (ℓ := (c : Thread nD τ).loc cc0_scratch2) slabSet slabs_disj slabs_cover (q := fullShare) f)
  rw [own_oth c]
  unfold landOth landS
  iintro ⟨H, HO⟩
  isplitl [H]; · iexists f; iexact H
  iexact HO

omit [FloatOps F] in
/-- The landing buffer is its own slab and the others. -/
theorem land_split (c : Dev nD) (f : Vec F S32x64x512 .bf16) : landW c f ⊢ iprop(landS c c f ∗ landOth c) := by
  rw [land_slabs]
  unfold landOth
  refine sep_mono_right (each fun e => ?_)
  iintro H; iexists f; iexact H

variable (m : (ℓ : Loc nD τ sig) → Buf (Elt F) ℓ) (K : Dev nD × Kd → ℕ)

/-! ## Handshakes and arrivals -/

/-- Ready to wait for phase `p`'s payments. -/
abbrev arrive (c : Dev nD) (p : ℕ) : sProp 𝕄 := iprop(posR c (pk p) (pr p) ∗ phCred c p)

/-- Nothing of the round has come in yet. -/
theorem recv_start (c : Dev nD) (p : ℕ) (W) : iprop(owes (c : Thread nD τ) (later c p) W ∗ arrive (F := F) c p) ⊢ recvSt (F := F) m c p 31 := by
  unfold recvSt arrive phCred
  iintro ⟨HO, Hat, Hc⟩
  isplitl [HO]; · iexists W; iexact HO
  isplitl [Hc]; · iexact Hc
  iexists ∅
  isplitr; · ipureintro; exact Finset.empty_subset _
  isplitl [Hat]; · rw [Nat.sub_self, Nat.zero_mul]; iexact Hat
  rw [bigSep_empty]; iempintro

/-- After the signals of a handshake, the wait. -/
theorem sig_recv {c : Dev nD} {p : ℕ} {X : sProp 𝕄} : iprop(Rec (F := F) m K ∗ sigSt m c p [] ∗ (arrive c p ∗ X)) ⊢ iprop(recvSt m c p 31 ∗ X) := by
  unfold sigSt
  rw [owedIn_nil]
  iintro ⟨-, ⟨⟨%W, HO⟩, -⟩, HA, HX⟩
  isplitl [HO HA]
  · iapply (recv_start m c p W)
    isplitl [HO] <;> iassumption
  iexact HX

/-- After the copies of a phase, the waits for what comes in. -/
theorem sd_recv {c : Dev nD} {p : ℕ} {it dn} {Y X : sProp 𝕄} : iprop(Rec (F := F) m K ∗ sdSt c p it [] dn ∗ ((arrive c p ∗ Y) ∗ X)) ⊢ iprop(recvSt m c p 31 ∗ ((snCred c dn ∗ Y) ∗ X)) := by
  unfold sdSt snCred
  rw [List.map_nil, owedIn_nil]
  iintro ⟨-, ⟨⟨%W, HO⟩, -, Hdn⟩, ⟨HA, HY⟩, HX⟩
  isplitl [HO HA]
  · iapply (recv_start m c p W)
    isplitl [HO] <;> iassumption
  isplitr [HX]
  · isplitl [Hdn] <;> iassumption
  iexact HX

/-- Ready to wait for the departures. -/
theorem dr_start (c : Dev nD) (p ρ : ℕ) (W) : iprop(owes (c : Thread nD τ) (later c p) W ∗ snCred c ks.reverse ∗ snPos c ρ) ⊢ drSt (F := F) m c p ρ ks [] := by
  unfold drSt snCred snPos
  rw [ksr_eq, ks_eq, bigSep_sep']
  iintro ⟨HO, Hc, Hp⟩
  isplitl [HO]; · iexists W; iexact HO
  isplitl [Hc Hp]
  · isplitl [Hp] <;> iassumption
  rw [bigSepL_nil]; iempintro

/-- All departures waited for. -/
theorem dr_done (c : Dev nD) (p ρ : ℕ) : drSt (F := F) m c p ρ [] ks.reverse
    ⊢ iprop((∃ W, owes (c : Thread nD τ) (later c p) W) ∗ snPos c (ρ + 1) ∗ snRch c (ρ + 1) ∗ bigSep Finset.univ fun k => sentPay m ρ c k) := by
  unfold drSt snPos snRch
  rw [ksr_eq, bigSep_sep', bigSep_sep']
  iintro ⟨HO, -, ⟨Hp, Hr⟩, Hs⟩
  isplitl [HO]; · iexact HO
  isplitl [Hp]; · iexact Hp
  isplitl [Hr] <;> iassumption

/-! ## Entry -/

/-- What a device has of the protocol at launch. -/
def Ghost (c : Dev nD) : sProp 𝕄 :=
  iprop((posR c kBar 0 ∗ posR c kAg 0 ∗ posR c kRs 0 ∗ posR c kEx 0 ∗ snPos c 0) ∗ Fut c 0 ∗ SnFut c 0)
/-- The scratch buffers, whatever they hold. -/
abbrev Scr (c : Dev nD) : sProp 𝕄 := iprop((∃ f, xqW (F := F) c f) ∗ partAny c ∗ (∃ f, landW (F := F) c f) ∗ sendAny c)
/-- What is left aside during the entry handshake. -/
abbrev BarK (c : Dev nD) : sProp 𝕄 :=
  iprop((Fut (F := F) c 1 ∗ SnFut c 0 ∗ snPos c 0) ∗ (posR c kAg 0 ∗ posR c kRs 0 ∗ posR c kEx 0)
    ∗ (∃ f, xqS (F := F) c fullShare c f) ∗ partAny c ∗ (∃ f, landW (F := F) c f) ∗ sendAny c)
/-- The slabs other devices have handed over for gather `r`. -/
abbrev HA (c : Dev nD) (r : ℕ) : sProp 𝕄 := bigSep (Finset.univ.erase c) (handA (F := F) r c)
/-- The slabs other devices have handed over for scatter `r`. -/
abbrev HR (c : Dev nD) (r : ℕ) : sProp 𝕄 := bigSep (Finset.univ.erase c) (handR (F := F) r c)

/-- At entry a device hands each peer that peer's slab of its activation buffer. -/
theorem enter (c : Dev nD) : iprop(Rec (F := F) m K ∗ (∃ W, owes (c : Thread nD τ) (O₀ c) W) ∗ Ghost c ∗ Scr c) ⊢ iprop(sigSt m c 0 flips ∗ (arrive c 0 ∗ BarK c)) := by
  unfold Ghost sigSt
  have e : bigSepL flips (fun j => iprop(dutyTok ER (kcell (px c j) (pk 0)) 0 c ∗ pay (F := F) m (pk 0) (px c j) 0 c))
      = iprop(phTok c 0 ∗ bigSep (Finset.univ.erase c) fun e => handA 0 e c) := by
    rw [flips_eq c (fun e => iprop(dutyTok ER (kcell e (pk 0)) 0 c ∗ pay (F := F) m (pk 0) e 0 c)), bigSep_sep']; rfl
  have hh : iprop(Rec (F := F) m K ∗ bigSep (Finset.univ.erase c) fun e => iprop(∃ f, xqS (F := F) c fullShare e f)) ⊢ bigSep (Finset.univ.erase c) fun e => handA (F := F) 0 e c := by
    refine bigSep_with_persistent fun e _ => ?_
    unfold handA
    iintro ⟨#HR, H⟩
    isplitl [H]; · iexact H
    iapply (Rec_reached m K c kAg); iexact HR
  have hx : ∀ f, (bigSep (Finset.univ.erase c) fun e => xqS (F := F) c fullShare e f) ⊢ bigSep (Finset.univ.erase c) fun e => iprop(∃ f, xqS (F := F) c fullShare e f) :=
    fun f => each fun e => by iintro H; iexists f; iexact H
  rw [e]
  iintro ⟨#HR, HO, ⟨⟨HpB, HpA, HpR, HpE, HpS⟩, HF, HS⟩, ⟨%f, Hx⟩, Hpart, Hland, Hsend⟩
  ihave HF := (Fut_split c 0 (by decide)) $$ HF
  icases HF with ⟨⟨Ht, Hc⟩, HF⟩
  ihave Hx := (Entails.of_eq (xq_slabs c f)) $$ Hx
  icases Hx with ⟨Hx, Hxs⟩
  isplitl [HO Ht Hxs]
  · isplitl [HO]; · iexact HO
    isplitl [Ht]; · iexact Ht
    iapply hh
    isplitr; · iexact HR
    iapply (hx f); iexact Hxs
  isplitl [HpB Hc]
  · isplitl [HpB]; · iexact HpB
    iexact Hc
  isplitl [HF HS HpS]
  · isplitl [HF]; · iexact HF
    isplitl [HS] <;> iassumption
  isplitl [HpA HpR HpE]
  · isplitl [HpA]; · iexact HpA
    isplitl [HpR] <;> iassumption
  isplitl [Hx]; · iexists f; iexact Hx
  isplitl [Hpart]; · iexact Hpart
  isplitl [Hland] <;> iassumption

/-- After the entry handshake: the own slabs not yet written. -/
abbrev InitK (c : Dev nD) : sProp 𝕄 :=
  iprop((∃ W, owes (c : Thread nD τ) (later c 0) W) ∗ (Fut (F := F) c 1 ∗ SnFut c 0) ∗ (snPos c 0 ∗ snRch c 0)
    ∗ (posR c kBar 1 ∗ posR c kAg 0 ∗ posR c kRs 0 ∗ posR c kEx 0) ∗ rch c kRs 0 ∗ HA c 0 ∗ landOth c ∗ (partAny c ∗ sendAny c))

/-- After the entry handshake a device holds its own slabs, to be written, and the rest. -/
theorem entered (c : Dev nD) : iprop(Rec (F := F) m K ∗ recvd m c 0 ∗ BarK c)
    ⊢ iprop(((∃ f, landS (F := F) c c f) ∗ (∃ f, xqS (F := F) c fullShare c f)) ∗ InitK c) := by
  unfold recvd
  have hr : Rec (F := F) m K ⊢ snRch c 0 := by unfold snRch; exact bigSep_intro_persistent fun k _ => Rec_reached m K c (kSn k)
  iintro ⟨#HR, ⟨HO, HpB, -, HH⟩, ⟨HF, HS, HpS⟩, ⟨HpA, HpR, HpE⟩, Hx, Hpart, ⟨%f, Hland⟩, Hsend⟩
  ihave Hland := (land_split c f) $$ Hland
  icases Hland with ⟨Hl, Hls⟩
  isplitl [Hx Hl]
  · isplitl [Hl]; · iexists f; iexact Hl
    iexact Hx
  isplitl [HO]; · iexact HO
  isplitl [HF HS]; · isplitl [HF] <;> iassumption
  isplitl [HpS]
  · isplitl [HpS]; · iexact HpS
    iapply hr; iexact HR
  isplitl [HpB HpA HpR HpE]
  · isplitl [HpB]; · iexact HpB
    isplitl [HpA]; · iexact HpA
    isplitl [HpR] <;> iassumption
  isplitr; · iapply (Rec_reached m K c kRs); iexact HR
  isplitl [HH]; · iexact HH
  isplitl [Hls]; · iexact Hls
  isplitl [Hpart] <;> iassumption

/-! ## A gather -/

/-- Before gather `r`. -/
def PreAG (c : Dev nD) (r : ℕ) : sProp 𝕄 :=
  iprop((∃ W, owes (c : Thread nD τ) (later c (2 * r)) W) ∗ (Fut c (2 * r + 1) ∗ SnFut c (2 * r)) ∗ (snPos c (2 * r) ∗ snRch c (2 * r))
    ∗ (posR c kBar 1 ∗ posR c kAg r ∗ posR c kRs r ∗ posR c kEx 0) ∗ rch c kRs r ∗ HA c r
    ∗ xqS c fullShare c (XQ m r) ∗ (landOwn c ∗ landOth c) ∗ (partAny c ∗ sendAny c))
/-- What is left aside during it. -/
abbrev AgK (c : Dev nD) (r : ℕ) : sProp 𝕄 :=
  iprop((Fut c (2 * r + 2) ∗ SnFut c (2 * r + 1)) ∗ (posR c kBar 1 ∗ posR c kRs r ∗ posR c kEx 0)
    ∗ xqS c (Transfers.shareDrop fullShare 31) c (XQ m r) ∗ (landOwn c ∗ landKeep c r) ∗ (partAny c ∗ sendAny c))
/-- After it, the activations aside: -/
abbrev PoK (c : Dev nD) (r : ℕ) : sProp 𝕄 :=
  iprop((∃ W, owes (c : Thread nD τ) (later c (2 * r + 1)) W) ∗ (Fut (F := F) c (2 * r + 2) ∗ SnFut c (2 * r + 1)) ∗ (snPos c (2 * r + 1) ∗ snRch c (2 * r + 1))
    ∗ (posR c kBar 1 ∗ posR c kAg (r + 1) ∗ posR c kRs r ∗ posR c kEx 0) ∗ rch c kAg (r + 1) ∗ (landOwn c ∗ landKeep c r) ∗ HR c r)
/-- gathered whole. -/
abbrev PostAG (c : Dev nD) (r : ℕ) : sProp 𝕄 := iprop((xqW c (XQ m r) ∗ partAny c ∗ sendAny c) ∗ PoK c r)

omit [FloatOps F] in
/-- With gather `r` each peer is handed its landing slab, while a scatter follows. -/
theorem hand_land (c : Dev nD) (r : ℕ) : iprop(rch (F := F) c kRs r ∗ landOth c) ⊢ iprop((bigSep Finset.univ fun k => handR r (peer c k) c) ∗ landKeep c r) := by
  by_cases h : r < 3
  · have h1 : iprop(rch (F := F) c kRs r ∗ landOth c) ⊢ bigSep (Finset.univ.erase c) fun e => handR (F := F) r e c := by
      unfold landOth
      refine bigSep_with_persistent fun e _ => ?_
      unfold handR; rw [if_pos h]
      iintro ⟨#H, HL⟩
      isplitl [HL]; · iexact HL
      iexact H
    unfold landKeep
    rw [if_pos h, ← peers_eq c (fun e => handR (F := F) r e c)]
    iintro H
    isplitl [H]; · iapply h1; iexact H
    iempintro
  · have e : (fun k => handR (F := F) r (peer c k) c) = fun _ => iprop(emp) := by funext k; unfold handR; exact if_neg h
    unfold landKeep
    rw [if_neg h, e, show (bigSep Finset.univ fun _ : Fin 31 => (iprop(emp) : sProp 𝕄)) = iprop(emp) from bigSep_emp_const _]
    iintro ⟨-, H⟩
    isplitr; · iempintro
    iexact H

/-- Setting out on gather `r`. -/
theorem ag_in (c : Dev nD) {r : ℕ} (hr : r < 4) : iprop(Rec (F := F) m K ∗ PreAG m c r)
    ⊢ iprop(sdSt c (2 * r + 1) (agIt m c r) ks [] ∗ ((arrive c (2 * r + 1) ∗ snPos c (2 * r)) ∗ AgK m c r)) := by
  have hsp : xqS c fullShare c (XQ (F := F) m r) ⊢ iprop(xqS c (Transfers.shareDrop fullShare 31) c (XQ m r) ∗ bigSep Finset.univ fun k => xqS c (qk k) c (XQ m r)) := by
    unfold xqS; exact Transfers.pointsTo_toks_split fullShare 31
  unfold PreAG sdSt agIt arrive AgK
  rw [ks_eq, bigSep_sep', bigSep_sep', bigSep_sep', bigSep_sep', bigSep_sep', pk_ag hr, pr_ag hr, bigSepL_nil,
    ← later_eq c (p := 2 * r) (by omega) ksj_nodup ksj_all]
  iintro ⟨-, HO, ⟨HF, HS⟩, ⟨HpS, HrS⟩, ⟨HpB, HpA, HpR, HpE⟩, HrR, HH, Hx, ⟨Hl, Hls⟩, Hps⟩
  ihave HF := (Fut_split c (2 * r + 1) (by omega)) $$ HF
  icases HF with ⟨⟨Ht, Hc⟩, HF⟩
  ihave HS := (SnFut_split c (2 * r) (by omega)) $$ HS
  icases HS with ⟨HtS, HS⟩
  ihave Hx := hsp $$ Hx
  icases Hx with ⟨Hx, Hxs⟩
  ihave Hls := (hand_land c r) $$ [HrR Hls]
  · isplitl [HrR] <;> iassumption
  icases Hls with ⟨Hls, Hlk⟩
  isplitl [HO Hxs HH Hls HtS HrS Ht]
  · isplitl [HO]; · iexact HO
    isplitl
    · isplitl [Hxs]; · iexact Hxs
      isplitl [HH]; · iapply (Entails.of_eq (peers_eq c (handA (F := F) r c))); iexact HH
      isplitl [Hls]; · iexact Hls
      isplitl [HtS HrS]
      · unfold snTok snRch
        isplitl [HtS] <;> iassumption
      unfold phTok
      rw [pk_ag hr, pr_ag hr]
      iapply (Entails.of_eq (peers_eq c (fun e => dutyTok ER (kcell e kAg) r c))); iexact Ht
    iempintro
  isplitl [HpA Hc HpS]
  · isplitl [HpA Hc]
    · isplitl [HpA] <;> iassumption
    iexact HpS
  isplitl [HF HS]; · isplitl [HF] <;> iassumption
  isplitl [HpB HpR HpE]
  · isplitl [HpB]; · iexact HpB
    isplitl [HpR] <;> iassumption
  isplitl [Hx]; · iexact Hx
  isplitl [Hl Hlk]; · isplitl [Hl] <;> iassumption
  iexact Hps

/-- The round come in, as it is kept while the departures are waited for. -/
abbrev got (c : Dev nD) (p : ℕ) : sProp 𝕄 :=
  iprop(posR c (pk p) (pr p + 1) ∗ rch c (pk p) (pr p + 1) ∗ bigSep (Finset.univ.erase c) fun d => pay m (pk p) c (pr p) d)

/-- After the arrivals of a gather, the departures. -/
theorem recv_dr {c : Dev nD} {p ρ : ℕ} {X : sProp 𝕄} : iprop(Rec (F := F) m K ∗ recvd m c p ∗ ((snCred c ks.reverse ∗ snPos c ρ) ∗ X)) ⊢ iprop(drSt m c p ρ ks [] ∗ (got m c p ∗ X)) := by
  unfold recvd
  iintro ⟨-, ⟨⟨%W, HO⟩, Hp, Hr, Hpay⟩, HS, HX⟩
  isplitl [HO HS]
  · iapply (dr_start m c p ρ W)
    isplitl [HO] <;> iassumption
  isplitr [HX]
  · isplitl [Hp]; · iexact Hp
    isplitl [Hr] <;> iassumption
  iexact HX

/-- Gather `r` done. -/
theorem ag_out (c : Dev nD) {r : ℕ} (hr : r < 4) : iprop(Rec (F := F) m K ∗ drSt m c (2 * r + 1) (2 * r) [] ks.reverse ∗ (got m c (2 * r + 1) ∗ AgK m c r)) ⊢ PostAG m c r := by
  have hs : (fun k => sentPay (F := F) m (2 * r) c k) = fun k => xqS c (qk k) c (XQ m r) := by
    funext k; unfold sentPay; rw [if_pos (by omega), show 2 * r / 2 = r by omega]
  have hj : iprop(xqS c (Transfers.shareDrop fullShare 31) c (XQ (F := F) m r) ∗ bigSep Finset.univ fun k => xqS c (qk k) c (XQ m r)) ⊢ xqS c fullShare c (XQ m r) := by
    unfold xqS; exact Transfers.pointsTo_toks_join fullShare 31
  have hp : (fun d => pay (F := F) m kAg c r d) = fun d => iprop(xqS c fullShare d (XQ m r) ∗ handR r c d) := rfl
  unfold got PostAG AgK
  rw [pk_ag hr, pr_ag hr, hp, bigSep_sep', xq_slabs]
  iintro ⟨-, HD, ⟨HpA, HrA, Hxs, HH⟩, ⟨HF, HS⟩, ⟨HpB, HpR, HpE⟩, Hx, Hl, Hps⟩
  ihave HD := (dr_done m c (2 * r + 1) (2 * r)) $$ HD
  rw [hs]
  icases HD with ⟨HO, HpS, HrS, Hxt⟩
  isplitl [Hxs Hx Hxt Hps]
  · isplitr [Hps]
    · isplitl [Hx Hxt]
      · iapply hj
        isplitl [Hx] <;> iassumption
      iexact Hxs
    iexact Hps
  isplitl [HO]; · iexact HO
  isplitl [HF HS]; · isplitl [HF] <;> iassumption
  isplitl [HpS HrS]; · isplitl [HpS] <;> iassumption
  isplitl [HpB HpA HpR HpE]
  · isplitl [HpB]; · iexact HpB
    isplitl [HpA]; · iexact HpA
    isplitl [HpR] <;> iassumption
  isplitl [HrA]; · iexact HrA
  isplitl [Hl] <;> iassumption

/-! ## A scatter -/

/-- Layer `r`'s products computed. -/
abbrev MidL (c : Dev nD) (r : ℕ) : sProp 𝕄 := iprop((xqW c (XQ m r) ∗ partW c (PV m r c) ∗ sendW c (SV m r c)) ∗ PoK c r)
/-- What is left aside during the scatter. -/
abbrev RsK (c : Dev nD) (r : ℕ) : sProp 𝕄 :=
  iprop((Fut c (2 * r + 3) ∗ SnFut c (2 * r + 2)) ∗ (posR c kBar 1 ∗ posR c kAg (r + 1) ∗ posR c kEx 0)
    ∗ xqS c fullShare c (XQ m r) ∗ landOwn c ∗ partW c (PV m r c) ∗ sendS c c (SV m r c))

/-- Setting out on scatter `r`: with each slab of the products goes that peer's slab of the activation buffer. -/
theorem rs_in (c : Dev nD) {r : ℕ} (hr : r < 3) : iprop(Rec (F := F) m K ∗ MidL m c r)
    ⊢ iprop(sdSt c (2 * r + 2) (rsIt m c r) ks [] ∗ ((arrive c (2 * r + 2) ∗ snPos c (2 * r + 1)) ∗ RsK m c r)) := by
  have hh : iprop(rch (F := F) c kAg (r + 1) ∗ bigSep (Finset.univ.erase c) fun e => xqS c fullShare e (XQ m r)) ⊢ bigSep (Finset.univ.erase c) fun e => handA (F := F) (r + 1) e c := by
    refine bigSep_with_persistent fun e _ => ?_
    unfold handA
    iintro ⟨#H, HL⟩
    isplitl [HL]; · iexists _; iexact HL
    iexact H
  unfold sdSt rsIt arrive MidL RsK
  rw [ks_eq, bigSep_sep', bigSep_sep', bigSep_sep', bigSep_sep', bigSep_sep', pk_rs hr, pr_rs hr, bigSepL_nil,
    ← later_eq c (p := 2 * r + 1) (by omega) ksj_nodup ksj_all, xq_slabs, send_slabs]
  iintro ⟨-, ⟨⟨Hx, Hxs⟩, Hpart, Hs, Hss⟩, HO, ⟨HF, HS⟩, ⟨HpS, HrS⟩, ⟨HpB, HpA, HpR, HpE⟩, HrA, ⟨Hl, -⟩, HH⟩
  ihave HF := (Fut_split c (2 * r + 2) (by omega)) $$ HF
  icases HF with ⟨⟨Ht, Hc⟩, HF⟩
  ihave HS := (SnFut_split c (2 * r + 1) (by omega)) $$ HS
  icases HS with ⟨HtS, HS⟩
  isplitl [HO Hss HH Hxs HrA HtS HrS Ht]
  · isplitl [HO]; · iexact HO
    isplitl
    · isplitl [Hss]; · iapply (Entails.of_eq (peers_eq c (fun e => sendS c e (SV m r c)))); iexact Hss
      isplitl [HH]; · iapply (Entails.of_eq (peers_eq c (handR (F := F) r c))); iexact HH
      isplitl [Hxs HrA]
      · iapply (Entails.of_eq (peers_eq c (fun e => handA (F := F) (r + 1) e c)))
        iapply hh
        isplitl [HrA] <;> iassumption
      isplitl [HtS HrS]
      · unfold snTok snRch
        isplitl [HtS] <;> iassumption
      unfold phTok
      rw [pk_rs hr, pr_rs hr]
      iapply (Entails.of_eq (peers_eq c (fun e => dutyTok ER (kcell e kRs) r c))); iexact Ht
    iempintro
  isplitl [HpR Hc HpS]
  · isplitl [HpR Hc]
    · isplitl [HpR] <;> iassumption
    iexact HpS
  isplitl [HF HS]; · isplitl [HF] <;> iassumption
  isplitl [HpB HpA HpE]
  · isplitl [HpB]; · iexact HpB
    isplitl [HpA] <;> iassumption
  isplitl [Hx]; · iexact Hx
  isplitl [Hl]; · iexact Hl
  isplitl [Hpart] <;> iassumption

/-- What the reduction of layer `r` reads and writes, before; -/
abbrev RedM (c : Dev nD) (r : ℕ) : sProp 𝕄 := iprop(partW c (PV m r c) ∗ landW c (LV m r c) ∗ xqS c fullShare c (XQ m r))
/-- and what is left aside. -/
abbrev RedK (c : Dev nD) (r : ℕ) : sProp 𝕄 :=
  iprop(((∃ W, owes (c : Thread nD τ) (later c (2 * r + 2)) W) ∗ snCred c ks.reverse ∗ snPos c (2 * r + 1))
    ∗ (Fut c (2 * r + 3) ∗ SnFut c (2 * r + 2)) ∗ (posR c kBar 1 ∗ posR c kAg (r + 1) ∗ posR c kRs (r + 1) ∗ posR c kEx 0)
    ∗ rch c kRs (r + 1) ∗ HA c (r + 1) ∗ sendS c c (SV m r c))

/-- Over the own slab, what the landing buffer should hold is the zero. -/
theorem land_own (c : Dev nD) (r : ℕ) : landOwn (F := F) c = landS c c (LV m r c) :=
  pointsTo_congr fun x hx => by
    have e : (show Fin 32 from x 0) = c := mem_slabSet.mp hx
    show k0_pay1 (F := F) (low x) = if (show Fin 32 from x 0) = c then k0_pay1 (F := F) (low x) else _
    rw [if_pos e]

/-- All products in: the landing buffer is whole. -/
theorem red_in (c : Dev nD) {r : ℕ} (hr : r < 3) : iprop(Rec (F := F) m K ∗ recvd m c (2 * r + 2) ∗ ((snCred c ks.reverse ∗ snPos c (2 * r + 1)) ∗ RsK m c r))
    ⊢ iprop(RedM m c r ∗ RedK m c r) := by
  have hp : (fun d => pay (F := F) m kRs c r d) = fun d => iprop(landS c d (LV m r c) ∗ handA (r + 1) c d) := rfl
  unfold recvd RsK RedM
  rw [pk_rs hr, pr_rs hr, hp, bigSep_sep', land_slabs, land_own m c r]
  iintro ⟨-, ⟨HO, HpR, HrR, Hls, HH⟩, ⟨Hc, HpS⟩, HFS, ⟨HpB, HpA, HpE⟩, Hx, Hl, Hpart, Hs⟩
  isplitl [Hx Hl Hls Hpart]
  · isplitl [Hpart]; · iexact Hpart
    isplitr [Hx]
    · isplitl [Hl] <;> iassumption
    iexact Hx
  isplitl [HO Hc HpS]
  · isplitl [HO]; · iexact HO
    isplitl [Hc] <;> iassumption
  isplitl [HFS]; · iexact HFS
  isplitl [HpB HpA HpR HpE]
  · isplitl [HpB]; · iexact HpB
    isplitl [HpA]; · iexact HpA
    isplitl [HpR] <;> iassumption
  isplitl [HrR]; · iexact HrR
  isplitl [HH] <;> iassumption

/-- What is kept while the scatter's departures are waited for. -/
abbrev RsE (c : Dev nD) (r : ℕ) : sProp 𝕄 :=
  iprop((Fut c (2 * r + 3) ∗ SnFut c (2 * r + 2)) ∗ (posR c kBar 1 ∗ posR c kAg (r + 1) ∗ posR c kRs (r + 1) ∗ posR c kEx 0)
    ∗ rch c kRs (r + 1) ∗ HA c (r + 1) ∗ sendS c c (SV m r c) ∗ partAny c ∗ landW c (LV m r c) ∗ xqS c fullShare c (XQ m (r + 1)))

/-- After the reduction, the departures. -/
theorem red_out (c : Dev nD) (r : ℕ) : iprop(Rec (F := F) m K ∗ (partW c (PV m r c) ∗ landW c (LV m r c) ∗ xqS c fullShare c (XQ m (r + 1))) ∗ RedK m c r)
    ⊢ iprop(drSt m c (2 * r + 2) (2 * r + 1) ks [] ∗ RsE m c r) := by
  iintro ⟨-, ⟨Hpart, Hl, Hx⟩, ⟨⟨%W, HO⟩, HS⟩, HFS, Hp, Hr, HH, Hs⟩
  isplitl [HO HS]
  · iapply (dr_start m c (2 * r + 2) (2 * r + 1) W)
    isplitl [HO] <;> iassumption
  isplitl [HFS]; · iexact HFS
  isplitl [Hp]; · iexact Hp
  isplitl [Hr]; · iexact Hr
  isplitl [HH]; · iexact HH
  isplitl [Hs]; · iexact Hs
  isplitl [Hpart]; · iexists _; iexact Hpart
  isplitl [Hl] <;> iassumption

/-- Scatter `r` done: ready for the next gather. -/
theorem rs_out (c : Dev nD) (r : ℕ) : iprop(Rec (F := F) m K ∗ drSt m c (2 * r + 2) (2 * r + 1) [] ks.reverse ∗ RsE m c r) ⊢ PreAG m c (r + 1) := by
  have hs : (fun k => sentPay (F := F) m (2 * r + 1) c k) = fun k => sendS c (peer c k) (SV m r c) := by
    funext k; unfold sentPay; rw [if_neg (by omega), show (2 * r + 1) / 2 = r by omega]
  have hoth : (bigSep (Finset.univ.erase c) fun e => landS c e (LV (F := F) m r c)) ⊢ landOth c := by
    unfold landOth
    exact each fun e => by iintro H; iexists _; iexact H
  unfold PreAG RsE
  rw [land_slabs, land_own m c r]
  iintro ⟨-, HD, ⟨HF, HS⟩, Hp, Hr, HH, Hs, Hpart, ⟨Hl, Hls⟩, Hx⟩
  ihave HD := (dr_done m c (2 * r + 2) (2 * r + 1)) $$ HD
  rw [hs]
  icases HD with ⟨HO, HpS, HrS, Hss⟩
  isplitl [HO]; · iexact HO
  isplitl [HF HS]; · isplitl [HF] <;> iassumption
  isplitl [HpS HrS]; · isplitl [HpS] <;> iassumption
  isplitl [Hp]; · iexact Hp
  isplitl [Hr]; · iexact Hr
  isplitl [HH]; · iexact HH
  isplitl [Hx]; · iexact Hx
  isplitl [Hl Hls]
  · isplitl [Hl]; · iexact Hl
    iapply hoth; iexact Hls
  isplitl [Hpart]; · iexact Hpart
  iexists (SV m r c)
  rw [send_slabs]
  isplitl [Hs]; · iexact Hs
  iapply (Entails.of_eq (peers_eq c (fun e => sendS c e (SV m r c))).symm); iexact Hss

/-! ## Exit -/

/-- What is left aside during the exit handshake. -/
abbrev ExK (c : Dev nD) : sProp 𝕄 :=
  iprop(snPos (F := F) c 7 ∗ (posR c kBar 1 ∗ posR c kAg 4 ∗ posR c kRs 3) ∗ Scr c)

/-- The last gather done, the exit handshake. -/
theorem leave (c : Dev nD) : iprop(Rec (F := F) m K ∗ PostAG m c 3) ⊢ iprop(sigSt m c 8 flips ∗ (arrive c 8 ∗ ExK c)) := by
  have e : bigSepL flips (fun j => iprop(dutyTok ER (kcell (px c j) (pk 8)) 0 c ∗ pay (F := F) m (pk 8) (px c j) 0 c)) = phTok c 8 := by
    rw [flips_eq c (fun e => iprop(dutyTok ER (kcell e (pk 8)) 0 c ∗ pay (F := F) m (pk 8) e 0 c)), bigSep_sep',
      show (fun e => pay (F := F) m (pk 8) e 0 c) = fun _ => iprop(emp) from rfl,
      show (bigSep (Finset.univ.erase c) fun _ => (iprop(emp) : sProp 𝕄)) = iprop(emp) from bigSep_emp_const _]
    exact equiv_iff.mp BI.sep_emp
  have hk : landKeep (F := F) c 3 ⊢ landOth c := Entails.of_eq (if_neg (by decide))
  unfold sigSt
  rw [e, ← later_eq c (p := 7) (by decide) flips_nodup flips_all]
  iintro ⟨-, ⟨Hx, Hpart, Hsend⟩, HO, ⟨HF, -⟩, ⟨HpS, -⟩, ⟨HpB, HpA, HpR, HpE⟩, -, ⟨Hl, Hlk⟩, -⟩
  ihave HF := (Fut_split c 8 (by decide)) $$ HF
  icases HF with ⟨⟨Ht, Hc⟩, -⟩
  isplitl [HO Ht]
  · isplitl [HO]; · iexact HO
    iexact Ht
  isplitl [HpE Hc]
  · isplitl [HpE]; · iexact HpE
    iexact Hc
  isplitl [HpS]; · iexact HpS
  isplitl [HpB HpA HpR]
  · isplitl [HpB]; · iexact HpB
    isplitl [HpA] <;> iassumption
  isplitl [Hx]; · iexists _; iexact Hx
  isplitl [Hpart]; · iexact Hpart
  isplitl [Hl Hlk]
  · iapply (land_join c zl)
    isplitl [Hl]; · iexact Hl
    iapply hk; iexact Hlk
  iexact Hsend

end States
end Cert.KProof
end
-- ==== Proof.Memory.lean ====
/-
# Loads and stores: reaching one buffer within what is held
-/
module

public import proofs.«01_k».proof.Proof.States

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Memory

set_option maxRecDepth 20000

/-! ## Reaching into what is held -/

/-- From `S` an assertion `X f`, at some `f`, can be taken out, and `X' f` put back gives `S'`. -/
def Acc {I : Type} (S : sProp 𝕄) (X X' : I → sProp 𝕄) (S' : sProp 𝕄) : Prop := S ⊢ iprop(∃ f, X f ∗ (X' f -∗ S'))
/-- The same, the assertion known. -/
def Get (S X : sProp 𝕄) : Prop := S ⊢ iprop(X ∗ (X -∗ S))

omit [FloatOps F] in
/-- An assertion gives itself; -/
theorem Get.refl (X : sProp 𝕄) : Get X X := by
  unfold Get; iintro H; isplitl [H]; · iexact H
  iintro H; iexact H
omit [FloatOps F] in
/-- a conjunction gives what its left part gives, -/
theorem Get.left {A Fr X : sProp 𝕄} (h : Get A X) : Get iprop(A ∗ Fr) X := by
  unfold Get at h ⊢
  iintro ⟨HA, HF⟩
  ihave H := h $$ HA
  icases H with ⟨HX, HW⟩
  isplitl [HX]; · iexact HX
  iintro HX
  isplitr [HF]; · iapply HW; iexact HX
  iexact HF
omit [FloatOps F] in
/-- and what its right part gives. -/
theorem Get.right {A Fr X : sProp 𝕄} (h : Get A X) : Get iprop(Fr ∗ A) X := by
  unfold Get at h ⊢
  iintro ⟨HF, HA⟩
  ihave H := h $$ HA
  icases H with ⟨HX, HW⟩
  isplitl [HX]; · iexact HX
  iintro HX
  isplitl [HF]; · iexact HF
  iapply HW; iexact HX
omit [FloatOps F] in
/-- An assertion at known contents changed; -/
theorem Acc.of {I : Type} {X X' : I → sProp 𝕄} {Y : sProp 𝕄} (f : I) (h : X' f ⊢ Y) : Acc (X f) X X' Y := by
  unfold Acc; iintro H; iexists f; isplitl [H]; · iexact H
  iintro H; iapply h; iexact H
omit [FloatOps F] in
/-- at whatever contents. -/
theorem Acc.ex {I : Type} {X X' : I → sProp 𝕄} {Y : sProp 𝕄} (h : ∀ f, X' f ⊢ Y) : Acc iprop(∃ f, X f) X X' Y := by
  unfold Acc; iintro ⟨%f, H⟩; iexists f; isplitl [H]; · iexact H
  iintro H; iapply (h f); iexact H
omit [FloatOps F] in
/-- A conjunction is changed in its left part, -/
theorem Acc.left {I : Type} {X X' : I → sProp 𝕄} {A A' Fr : sProp 𝕄} (h : Acc A X X' A') : Acc iprop(A ∗ Fr) X X' iprop(A' ∗ Fr) := by
  unfold Acc at h ⊢
  iintro ⟨HA, HF⟩
  ihave H := h $$ HA
  icases H with ⟨%f, HX, HW⟩
  iexists f
  isplitl [HX]; · iexact HX
  iintro HX
  isplitr [HF]; · iapply HW; iexact HX
  iexact HF
omit [FloatOps F] in
/-- or in its right part. -/
theorem Acc.right {I : Type} {X X' : I → sProp 𝕄} {A A' Fr : sProp 𝕄} (h : Acc A X X' A') : Acc iprop(Fr ∗ A) X X' iprop(Fr ∗ A') := by
  unfold Acc at h ⊢
  iintro ⟨HF, HA⟩
  ihave H := h $$ HA
  icases H with ⟨%f, HX, HW⟩
  iexists f
  isplitl [HX]; · iexact HX
  iintro HX
  isplitl [HF]; · iexact HF
  iapply HW; iexact HX
omit [FloatOps F] in
/-- Taken out and put back unchanged at whatever contents. -/
theorem Acc.same {I : Type} {X : I → sProp 𝕄} : Acc iprop(∃ f, X f) X X iprop(∃ f, X f) :=
  Acc.ex fun f => by iintro H; iexists f; iexact H

variable (m : (ℓ : Loc nD τ sig) → Buf (Elt F) ℓ) (K : Dev nD × Kd → ℕ)

/-- A load of a buffer held at known contents. -/
theorem load_step (c : Dev nD) {s : Shape} {e : EltTy} {M : Memref sig .tc .vmem s e} {r : LoadRect s} {hl : M.view.LoadsAt r}
    {T : Finset (Idx (M.view.loc (c : Thread nD τ)))} {q : PosShare TreeShare} {f : Buf (Elt F) (M.view.loc (c : Thread nD τ))} {S : sProp 𝕄}
    {α : Type} {Q : α → sProp 𝕄} {k : (r.shape.Idx → Elt F e) → Prog (TpuEff nD τ sig (Elt F) Λ₀ .tc) α}
    (hT : M.view.setOn r.set ⊆ T) (hg : Get S (M.view.loc (c : Thread nD τ) ↦[T]{q} f)) {v : r.shape.Idx → Elt F e} (hv : M.view.readAt (Elt F) r f = v)
    (h : iprop(Rec (F := F) m K ∗ S) ⊢ WP c (k v) Q) :
    iprop(Rec (F := F) m K ∗ S) ⊢ WP c (.op (.load M r hl) k) Q := by
  subst hv
  unfold Get at hg
  iintro ⟨#HR, HS⟩
  ihave H := hg $$ HS
  icases H with ⟨HX, HW⟩
  iapply (wp_load 𝒱₀ (c : Thread nD τ) none Set.univ (m := M) hT) $$ HX
  iintro HX
  iapply h
  isplitr; · iexact HR
  iapply HW; iexact HX

/-- A load whose value is not used. -/
theorem load_any (c : Dev nD) {s : Shape} {e : EltTy} {M : Memref sig .tc .vmem s e} {r : LoadRect s} {hl : M.view.LoadsAt r}
    {T : Finset (Idx (M.view.loc (c : Thread nD τ)))} {q : PosShare TreeShare} {S S' : sProp 𝕄}
    {α : Type} {Q : α → sProp 𝕄} {k : (r.shape.Idx → Elt F e) → Prog (TpuEff nD τ sig (Elt F) Λ₀ .tc) α}
    (hT : M.view.setOn r.set ⊆ T) (hg : Acc S (fun f : Buf (Elt F) (M.view.loc (c : Thread nD τ)) => M.view.loc (c : Thread nD τ) ↦[T]{q} f) (fun f => M.view.loc (c : Thread nD τ) ↦[T]{q} f) S')
    (h : ∀ v, iprop(Rec (F := F) m K ∗ S') ⊢ WP c (k v) Q) :
    iprop(Rec (F := F) m K ∗ S) ⊢ WP c (.op (.load M r hl) k) Q := by
  unfold Acc at hg
  iintro ⟨#HR, HS⟩
  ihave H := hg $$ HS
  icases H with ⟨%f, HX, HW⟩
  iapply (wp_load 𝒱₀ (c : Thread nD τ) none Set.univ (m := M) hT) $$ HX
  iintro HX
  iapply (h _)
  isplitr; · iexact HR
  iapply HW; iexact HX

/-- A store. -/
theorem store_step (c : Dev nD) {s : Shape} {e : EltTy} {M : Memref sig .tc .vmem s e} {r : Rect s} {w : r.shape.Idx → Elt F e}
    {hx : (M.access r).Stores Finset.univ} {hm : (Finset.univ : Finset r.shape.Idx) = Finset.univ ∨ ∀ a, r.stride a = 1}
    {T : Finset (Idx (M.view.loc (c : Thread nD τ)))} {S S' : sProp 𝕄}
    {α : Type} {Q : α → sProp 𝕄} {k : PUnit → Prog (TpuEff nD τ sig (Elt F) Λ₀ .tc) α}
    (hT : (M.access r).setOn Finset.univ ⊆ T)
    (hg : Acc S (fun f : Buf (Elt F) (M.view.loc (c : Thread nD τ)) => M.view.loc (c : Thread nD τ) ↦[T]{fullShare} f)
      (fun f => M.view.loc (c : Thread nD τ) ↦[T]{fullShare} ((M.access r).write (Elt F) f w Finset.univ)) S')
    (h : iprop(Rec (F := F) m K ∗ S') ⊢ WP c (k ⟨⟩) Q) :
    iprop(Rec (F := F) m K ∗ S) ⊢ WP c (.op (.store M r w Finset.univ hx hm) k) Q := by
  unfold Acc at hg
  iintro ⟨#HR, HS⟩
  ihave H := hg $$ HS
  icases H with ⟨%f, HX, HW⟩
  iapply (wp_store 𝒱₀ (c : Thread nD τ) none Set.univ (m := M) (r := r) (Mk := Finset.univ) hT) $$ HX
  iintro HX
  iapply h
  isplitr; · iexact HR
  iapply HW; iexact HX

omit [FloatOps F] in
/-- Two zero offsets, -/
theorem hz2 : (![0, 0] : Fin 2 → Nat) = fun _ => 0 := funext fun a => by fin_cases a <;> rfl
omit [FloatOps F] in
/-- and three. -/
theorem hz3 : (![0, 0, 0] : Fin 3 → Nat) = fun _ => 0 := funext fun a => by fin_cases a <;> rfl

/-- What a load through slab `i` reads from: of the activation buffer, -/
theorem xq_reads (i : Dev nD) (h) : (xqM : Memref sig .tc .vmem S32x64x512 .bf16).view.setOn (slabR (slabOff i) h).toLoadRect.set = slabSet i := by
  exact (View.set_slice _ _).symm.trans (setOn_univ_slab i h)
/-- of the landing buffer. -/
theorem land_reads (i : Dev nD) (h) : (landM : Memref sig .tc .vmem S32x64x512 .bf16).view.setOn (slabR (slabOff i) h).toLoadRect.set = slabSet i := by
  exact (View.set_slice _ _).symm.trans (setOn_univ_land i h)

section Rules

variable (c : Dev nD) {off : Fin 3 → Nat} {hb : ∀ a, off a + S1x64x512.size a ≤ S32x64x512.size a} (ho : off = slabOff c)
include ho

/-- A load of the own slab of the landing buffer, not used; -/
theorem land_dead {α : Type} {Q : α → sProp 𝕄} {S S' : sProp 𝕄} {hl : (landM : Memref sig .tc .vmem S32x64x512 .bf16).view.LoadsAt (slabR off hb).toLoadRect} {k : (S1x64x512.Idx → Elt F .bf16) → Prog (TpuEff nD τ sig (Elt F) Λ₀ .tc) α}
    (hg : Acc S (fun f => landS (F := F) c c f) (fun f => landS (F := F) c c f) S') (h : ∀ v, iprop(Rec (F := F) m K ∗ S') ⊢ WP c (k v) Q) :
    iprop(Rec (F := F) m K ∗ S) ⊢ WP c (.op (.load landM (slabR off hb).toLoadRect hl) k) Q := by
  subst ho
  exact load_any m K c (M := landM) (T := slabSet c) (q := fullShare) (land_reads c hb).subset hg h
/-- of the activation buffer. -/
theorem xq_dead {α : Type} {Q : α → sProp 𝕄} {S S' : sProp 𝕄} {hl : (xqM : Memref sig .tc .vmem S32x64x512 .bf16).view.LoadsAt (slabR off hb).toLoadRect} {k : (S1x64x512.Idx → Elt F .bf16) → Prog (TpuEff nD τ sig (Elt F) Λ₀ .tc) α}
    (hg : Acc S (fun f => xqS (F := F) c fullShare c f) (fun f => xqS (F := F) c fullShare c f) S') (h : ∀ v, iprop(Rec (F := F) m K ∗ S') ⊢ WP c (k v) Q) :
    iprop(Rec (F := F) m K ∗ S) ⊢ WP c (.op (.load xqM (slabR off hb).toLoadRect hl) k) Q := by
  subst ho
  exact load_any m K c (M := xqM) (T := slabSet c) (q := fullShare) (xq_reads c hb).subset hg h
/-- A load of the own slab of the partial product. -/
theorem part_load {α : Type} {Q : α → sProp 𝕄} {S : sProp 𝕄} {hl : (partM : Memref sig .tc .vmem S32x64x512 .f32).view.LoadsAt (slabR off hb).toLoadRect} {k : (S1x64x512.Idx → Elt F .f32) → Prog (TpuEff nD τ sig (Elt F) Λ₀ .tc) α}
    {f : Vec F S32x64x512 .f32} (hg : Get S (partW c f)) (h : iprop(Rec (F := F) m K ∗ S) ⊢ WP c (k (slab c f)) Q) :
    iprop(Rec (F := F) m K ∗ S) ⊢ WP c (.op (.load partM (slabR off hb).toLoadRect hl) k) Q := by
  subst ho
  exact load_step m K c (M := partM) (T := Finset.univ) (q := fullShare) (Finset.subset_univ _) hg (part_read c hb f) h
/-- A store of the own slab of the landing buffer; -/
theorem land_store {α : Type} {Q : α → sProp 𝕄} {S S' : sProp 𝕄} {w : S1x64x512.Idx → Elt F .bf16} {hx : ((landM : Memref sig .tc .vmem S32x64x512 .bf16).access (slabR off hb)).Stores Finset.univ}
    {hm : (Finset.univ : Finset (slabR off hb).shape.Idx) = Finset.univ ∨ ∀ a, (slabR off hb).stride a = 1} {k : PUnit → Prog (TpuEff nD τ sig (Elt F) Λ₀ .tc) α}
    (hg : Acc S (fun f => landS (F := F) c c f) (fun f => landS (F := F) c c fun x => if x ∈ slabSet c then w (low x) else f x) S') (h : iprop(Rec (F := F) m K ∗ S') ⊢ WP c (k ⟨⟩) Q) :
    iprop(Rec (F := F) m K ∗ S) ⊢ WP c (.op (.store landM (slabR off hb) w Finset.univ hx hm) k) Q := by
  subst ho
  have e : (fun f : Vec F S32x64x512 .bf16 => (((c : Thread nD τ).loc cc0_scratch2) ↦[slabSet c]{fullShare} ((landM : Memref sig .tc .vmem S32x64x512 .bf16).access (slabR (slabOff c) hb)).write (Elt F) f w Finset.univ : sProp 𝕄))
      = fun f => landS c c fun x => if x ∈ slabSet c then w (low x) else f x := by
    funext f; rw [land_write]; rfl
  rw [← e] at hg
  exact store_step m K c (M := landM) (T := slabSet c) (setOn_univ_land c hb).subset hg h
/-- of the activation buffer. -/
theorem xq_store {α : Type} {Q : α → sProp 𝕄} {S S' : sProp 𝕄} {w : S1x64x512.Idx → Elt F .bf16} {hx : ((xqM : Memref sig .tc .vmem S32x64x512 .bf16).access (slabR off hb)).Stores Finset.univ}
    {hm : (Finset.univ : Finset (slabR off hb).shape.Idx) = Finset.univ ∨ ∀ a, (slabR off hb).stride a = 1} {k : PUnit → Prog (TpuEff nD τ sig (Elt F) Λ₀ .tc) α}
    (hg : Acc S (fun f => xqS (F := F) c fullShare c f) (fun f => xqS (F := F) c fullShare c fun x => if x ∈ slabSet c then w (low x) else f x) S') (h : iprop(Rec (F := F) m K ∗ S') ⊢ WP c (k ⟨⟩) Q) :
    iprop(Rec (F := F) m K ∗ S) ⊢ WP c (.op (.store xqM (slabR off hb) w Finset.univ hx hm) k) Q := by
  subst ho
  have e : (fun f : Vec F S32x64x512 .bf16 => (((c : Thread nD τ).loc cc0_scratch0) ↦[slabSet c]{fullShare} ((xqM : Memref sig .tc .vmem S32x64x512 .bf16).access (slabR (slabOff c) hb)).write (Elt F) f w Finset.univ : sProp 𝕄))
      = fun f => xqS c fullShare c fun x => if x ∈ slabSet c then w (low x) else f x := by
    funext f; rw [xq_write]; rfl
  rw [← e] at hg
  exact store_step m K c (M := xqM) (T := slabSet c) (setOn_univ_slab c hb).subset hg h

end Rules

/-- Storing the zeros gives the own landing slab. -/
theorem zero_stored (c : Dev nD) (f : Vec F S32x64x512 .bf16) :
    landS c c (fun x => if x ∈ slabSet c then k0_pay1 (F := F) (low x) else f x) ⊢ landOwn c :=
  Entails.of_eq (pointsTo_congr fun x hx => if_pos hx)
/-- Storing the own rows gives the first activations' own slab. -/
theorem x_stored (c : Dev nD) (f : Vec F S32x64x512 .bf16) :
    xqS c fullShare c (fun x => if x ∈ slabSet c then k0_pay2 (xstg m c) (low x) else f x) ⊢ xqS c fullShare c (XQ m 0) := by
  refine Entails.of_eq (pointsTo_congr fun x hx => ?_)
  have e : (show Fin 32 from x 0) = c := mem_slabSet.mp hx
  rw [if_pos hx]
  show _ = k0_pay2 (xstg m (show Fin 32 from x 0)) (low x)
  rw [e]
/-- Storing the reduction gives the next activations' own slab. -/
theorem red_stored (c : Dev nD) (r : ℕ) (f : Vec F S32x64x512 .bf16) :
    xqS c fullShare c (fun x => if x ∈ slabSet c then k0_pay7 (slab (F := F) c (PV m r c)) (LV m r c) (low x) else f x) ⊢ xqS c fullShare c (XQ m (r + 1)) := by
  refine Entails.of_eq (pointsTo_congr fun x hx => ?_)
  have e : (show Fin 32 from x 0) = c := mem_slabSet.mp hx
  rw [if_pos hx]
  show _ = k0_pay7 (slab (F := F) (show Fin 32 from x 0) (pvOf m (XQ m r) r (show Fin 32 from x 0))) (lvOf m (XQ m r) r (show Fin 32 from x 0)) (low x)
  rw [e]

end Memory
end Cert.KProof
end
-- ==== Proof.Body.lean ====
/-
# The body of the kernel, at any device
-/
module

public import proofs.«01_k».proof.Proof.Memory

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Body

set_option maxRecDepth 65536

/-! ## Device numbers and slabs as the kernel computes them -/

/-- The number the kernel computes for the device at flip `j`. -/
theorem devw (c : Dev nD) {j : Fin 32} {n : ℕ} {h : n < nD} (e : n = (Scalar.addi 0#32 (Scalar.muli (Scalar.xori (Scalar.remsi (Scalar.divsi (Dev.word c) 1#32) 32#32) (BitVec.ofNat 32 j.val)) 1#32)).toNat) :
    (⟨n, h⟩ : Dev nD) = px c j := by
  subst e
  apply Fin.ext
  revert c j; decide +kernel
/-- The own slab starts where the kernel computes; -/
theorem own_off (c : Dev nD) {off : Fin 3 → ℕ} (e : off = ![(Scalar.remsi (Scalar.divsi (Dev.word c) 1#32) 32#32).toNat, 0, 0]) : off = slabOff c := by
  have h : (Scalar.remsi (Scalar.divsi (Dev.word c) 1#32) 32#32).toNat = c.val := by clear e; revert c; decide +kernel
  rw [e, h]
/-- so does the slab at flip `j`. -/
theorem peer_off (c : Dev nD) {j : Fin 32} {off : Fin 3 → ℕ} (e : off = ![(Scalar.xori (Scalar.remsi (Scalar.divsi (Dev.word c) 1#32) 32#32) (BitVec.ofNat 32 j.val)).toNat, 0, 0]) :
    off = slabOff (px c j) := by
  have h : (Scalar.xori (Scalar.remsi (Scalar.divsi (Dev.word c) 1#32) 32#32) (BitVec.ofNat 32 j.val)).toNat = (px c j).val := by clear e; revert c j; decide +kernel
  rw [e, h]

variable (m : (ℓ : Loc nD τ sig) → Buf (Elt F) ℓ) (K : Dev nD × Kd → ℕ)

/-- A device reads its own number. -/
theorem dev_step (c : Dev nD) {α : Type} {Q : α → sProp 𝕄} {k : Dev nD → Prog (TpuEff nD τ sig (Elt F) Λ₀ .tc) α} {P : sProp 𝕄}
    (h : P ⊢ WP c (k c) Q) : P ⊢ WP c (.op .deviceId k) Q := by
  show P ⊢ wp frame (wpE (defs₀ (F := F)) 𝒱₀ (c : Thread nD τ) none) Set.univ (.op .deviceId k) Q
  rw [wp_deviceId]; exact h

/-- A program that has ended. -/
theorem ret_step (c : Dev nD) {α : Type} {Q : α → sProp 𝕄} {a : α} {P : sProp 𝕄} (h : P ⊢ iprop(|={Set.univ}=> Q a)) : P ⊢ WP c (.ret a) Q := by
  show P ⊢ wp frame (wpE (defs₀ (F := F)) 𝒱₀ (c : Thread nD τ) none) Set.univ (.ret a) Q
  rw [wp_ret]; exact h

/-- A change of what is held into two things. -/
theorem convA {A B C Fr P : sProp 𝕄} (hAB : iprop(Rec (F := F) m K ∗ A) ⊢ iprop(B ∗ C)) (h : iprop(Rec (F := F) m K ∗ B ∗ C ∗ Fr) ⊢ P) :
    iprop(Rec (F := F) m K ∗ A ∗ Fr) ⊢ P := by
  iintro ⟨#HR, HA, HF⟩
  ihave HB := hAB $$ [HA]
  · isplitr; · iexact HR
    iexact HA
  icases HB with ⟨HB, HC⟩
  iapply h
  isplitr; · iexact HR
  isplitl [HB]; · iexact HB
  isplitl [HC] <;> iassumption
/-- Two things held made one. -/
theorem convB {A A' B Fr P : sProp 𝕄} (hAB : iprop(Rec (F := F) m K ∗ A ∗ A') ⊢ B) (h : iprop(Rec (F := F) m K ∗ B ∗ Fr) ⊢ P) :
    iprop(Rec (F := F) m K ∗ A ∗ A' ∗ Fr) ⊢ P := by
  iintro ⟨#HR, HA, HA', HF⟩
  ihave HB := hAB $$ [HA HA']
  · isplitr; · iexact HR
    isplitl [HA] <;> iassumption
  iapply h
  isplitr; · iexact HR
  isplitl [HB] <;> iassumption

/-- The own slabs written, the first gather can begin. -/
theorem init_done (c : Dev nD) : iprop(Rec (F := F) m K ∗ (landOwn c ∗ xqS c fullShare c (XQ m 0)) ∗ InitK c) ⊢ PreAG m c 0 := by
  unfold PreAG
  iintro ⟨-, ⟨Hl, Hx⟩, HO, HF, HS, Hp, Hr, HH, Hls, Hps⟩
  isplitl [HO]; · iexact HO
  isplitl [HF]; · iexact HF
  isplitl [HS]; · iexact HS
  isplitl [Hp]; · iexact Hp
  isplitl [Hr]; · iexact Hr
  isplitl [HH]; · iexact HH
  isplitl [Hx]; · iexact Hx
  isplitr [Hps]
  · isplitl [Hl] <;> iassumption
  iexact Hps

/-- The operands as staged. -/
abbrev Zin (c : Dev nD) : sProp 𝕄 :=
  iprop((((c : Thread nD τ).loc cc0_stg0_0) ↦{fullShare} xstg m c)
    ∗ (((c : Thread nD τ).loc cc0_stg1_0) ↦{fullShare} wi m 0 c) ∗ (((c : Thread nD τ).loc cc0_stg2_0) ↦{fullShare} wo m 0 c)
    ∗ (((c : Thread nD τ).loc cc0_stg3_0) ↦{fullShare} wi m 1 c) ∗ (((c : Thread nD τ).loc cc0_stg4_0) ↦{fullShare} wo m 1 c)
    ∗ (((c : Thread nD τ).loc cc0_stg5_0) ↦{fullShare} wi m 2 c) ∗ (((c : Thread nD τ).loc cc0_stg6_0) ↦{fullShare} wo m 2 c))
/-- The result's staging buffer. -/
abbrev zO (c : Dev nD) (f : Vec F S2048x512 .bf16) : sProp 𝕄 := ((c : Thread nD τ).loc cc0_stg7_0) ↦{fullShare} f
/-- All staged operands, and the result's staging buffer at any contents. -/
abbrev Z (c : Dev nD) : sProp 𝕄 := iprop(Zin m c ∗ ∃ f, zO c f)

omit [FloatOps F] in
/-- Known contents, read and put back. -/
theorem Acc.keep {I : Type} {X : I → sProp 𝕄} (f : I) : Acc (X f) X X iprop(∃ f, X f) :=
  Acc.of f (by iintro H; iexists f; iexact H)

/-- A store of the whole buffer of rounded products, -/
theorem send_stored (c : Dev nD) (w f : Vec F S32x64x512 .bf16) :
    (((c : Thread nD τ).loc cc0_scratch3) ↦{fullShare} ((sendbM : Memref sig .tc .vmem S32x64x512 .bf16).access (Rect.unit (s := S32x64x512) ![0, 0, 0] S32x64x512.size inb_S32x64x512_S32x64x512_0_0_0)).write (Elt F) f w Finset.univ : sProp 𝕄) ⊢ sendW c w :=
  Entails.of_eq (congrArg (fun g => (((c : Thread nD τ).loc cc0_scratch3) ↦{fullShare} g : sProp 𝕄)) (Memref.write_access_unit_zero_univ (Elt F) cc0_scratch3 hz3 _ f w))
/-- of the whole partial product, -/
theorem part_stored (c : Dev nD) (w f : Vec F S32x64x512 .f32) :
    (((c : Thread nD τ).loc cc0_scratch1) ↦{fullShare} ((partM : Memref sig .tc .vmem S32x64x512 .f32).access (Rect.unit (s := S32x64x512) ![0, 0, 0] S32x64x512.size inb_S32x64x512_S32x64x512_0_0_0)).write (Elt F) f w Finset.univ : sProp 𝕄) ⊢ partW c w :=
  Entails.of_eq (congrArg (fun g => (((c : Thread nD τ).loc cc0_scratch1) ↦{fullShare} g : sProp 𝕄)) (Memref.write_access_unit_zero_univ (Elt F) cc0_scratch1 hz3 _ f w))
/-- of the whole result. -/
theorem out_stored (c : Dev nD) (w f : Vec F S2048x512 .bf16) :
    (((c : Thread nD τ).loc cc0_stg7_0) ↦{fullShare} ((Memref.whole cc0_stg7_0 : Memref sig .tc .vmem S2048x512 .bf16).access (Rect.unit (s := S2048x512) ![0, 0] S2048x512.size inb_S2048x512_S2048x512_0_0)).write (Elt F) f w Finset.univ : sProp 𝕄) ⊢ zO c w :=
  Entails.of_eq (congrArg (fun g => (((c : Thread nD τ).loc cc0_stg7_0) ↦{fullShare} g : sProp 𝕄)) (Memref.write_access_unit_zero_univ (Elt F) cc0_stg7_0 hz2 _ f w))

section Windows
variable (c : Dev nD)
/-- Loads of the staged weights, in the order of the layers. -/
theorem get1 {A B : sProp 𝕄} : Get iprop(A ∗ Zin m c ∗ B) ((Memref.whole cc0_stg1_0).view.loc (c : Thread nD τ) ↦[Finset.univ]{fullShare} wi m 0 c) := .right (.left (.right (.left (.refl _))))
/-- The same of the first layer's second weight, -/
theorem get2 {A B : sProp 𝕄} : Get iprop(A ∗ Zin m c ∗ B) ((Memref.whole cc0_stg2_0).view.loc (c : Thread nD τ) ↦[Finset.univ]{fullShare} wo m 0 c) := .right (.left (.right (.right (.left (.refl _)))))
/-- of the second layer's first -/
theorem get3 {A B : sProp 𝕄} : Get iprop(A ∗ Zin m c ∗ B) ((Memref.whole cc0_stg3_0).view.loc (c : Thread nD τ) ↦[Finset.univ]{fullShare} wi m 1 c) := .right (.left (.right (.right (.right (.left (.refl _))))))
/-- and second, -/
theorem get4 {A B : sProp 𝕄} : Get iprop(A ∗ Zin m c ∗ B) ((Memref.whole cc0_stg4_0).view.loc (c : Thread nD τ) ↦[Finset.univ]{fullShare} wo m 1 c) := .right (.left (.right (.right (.right (.right (.left (.refl _)))))))
/-- of the third layer's first -/
theorem get5 {A B : sProp 𝕄} : Get iprop(A ∗ Zin m c ∗ B) ((Memref.whole cc0_stg5_0).view.loc (c : Thread nD τ) ↦[Finset.univ]{fullShare} wi m 2 c) := .right (.left (.right (.right (.right (.right (.right (.left (.refl _))))))))
/-- and second. -/
theorem get6 {A B : sProp 𝕄} : Get iprop(A ∗ Zin m c ∗ B) ((Memref.whole cc0_stg6_0).view.loc (c : Thread nD τ) ↦[Finset.univ]{fullShare} wo m 2 c) := .right (.left (.right (.right (.right (.right (.right (.right (.refl _))))))))
end Windows

/-- The kernel's body on the staged windows. -/
abbrev kbody : Prog (TpuEff nD τ sig (Elt F) Λ₀ .tc) PUnit :=
  cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scoped0

set_option maxHeartbeats 4000000 in
/-- The kernel's body, phase after phase, from its start to the state after the exit handshake. -/
theorem body_run (c : Dev nD) (Q : PUnit → sProp 𝕄)
    (hQ : iprop(Rec (F := F) m K ∗ recvd m c 8 ∗ ExK c ∗ Zin m c ∗ zO c (k0_pay17 (XQ m 3))) ⊢ iprop(|={Set.univ}=> Q ⟨⟩)) :
    iprop(Rec (F := F) m K ∗ ((∃ W, owes (c : Thread nD τ) (O₀ c) W) ∗ Ghost c ∗ Scr c) ∗ Z m c) ⊢ WP c kbody Q := by
  unfold kbody
  rw [cc0_body_eq_skeleton]
  refine dev_step c ?_
  refine convA m K (enter m K c) ?_
  iterate 31 refine signal_step m K c 0 rfl (by decide) rfl (by exact devw c rfl) (by rfl) (by decide) ?_
  refine conv₂ m K (sig_recv m K) ?_
  refine wait_last m K c (by decide) (by decide) (by decide) (by rfl) (by rfl) (wpE_semWait_eq 𝒱₀ (c : Thread nD τ) none Set.univ) ?_
  refine conv₂ m K (entered m K c) ?_
  refine land_dead m K c (own_off c rfl) (Acc.left (Acc.left Acc.same)) fun _ => ?_
  refine land_store m K c (own_off c rfl) (Acc.left (Acc.left (Acc.ex (zero_stored c)))) ?_
  refine load_step m K c (M := Memref.whole cc0_stg0_0) (T := Finset.univ) (q := fullShare) (f := xstg m c) (Finset.subset_univ _) (Get.right (Get.right (Get.left (Get.left (Get.refl _))))) (Memref.readAt_unit_zero (Elt F) cc0_stg0_0 hz2 _ _) ?_
  refine xq_dead m K c (own_off c rfl) (Acc.left (Acc.right Acc.same)) fun _ => ?_
  refine xq_store m K c (own_off c rfl) (Acc.left (Acc.right (Acc.ex (x_stored m c)))) ?_
  refine convB m K (init_done m K c) ?_
  refine convA m K (ag_in m K c (r := 0) (by decide)) ?_
  iterate 31 refine ag_step m K c (by decide) (by exact devw c rfl) (by exact own_off c rfl) (by exact own_off c rfl) (by rfl) ?_
  refine conv₂ m K (sd_recv m K) ?_
  iterate 30 refine wait_mid m K c (by decide) (by decide) (by decide) (by rfl) (by rfl) (wpE_waitDma2_eq 𝒱₀ (c : Thread nD τ) none Set.univ) ?_
  refine wait_last m K c (by decide) (by decide) (by decide) (by rfl) (by rfl) (wpE_waitDma2_eq 𝒱₀ (c : Thread nD τ) none Set.univ) ?_
  refine conv₂ m K (recv_dr m K) ?_
  iterate 31 refine drain_step m K c (by decide) (by decide) (by rfl) (by rfl) (wpE_waitDma2_eq 𝒱₀ (c : Thread nD τ) none Set.univ) ?_
  refine convB m K (ag_out m K c (r := 0) (by decide)) ?_
  iterate 3
    refine load_step m K c (M := xqM) (T := Finset.univ) (q := fullShare) (Finset.subset_univ _) (Get.left (Get.left (Get.left (Get.refl _)))) (Memref.readAt_unit_zero (Elt F) cc0_scratch0 hz3 _ _) ?_
    refine load_step m K c (T := Finset.univ) (q := fullShare) (Finset.subset_univ _) (by first | with_reducible exact get1 m c | with_reducible exact get3 m c | with_reducible exact get5 m c) (by exact Memref.readAt_unit_zero (Elt F) _ hz2 _ _) ?_
    refine load_step m K c (T := Finset.univ) (q := fullShare) (Finset.subset_univ _) (by first | with_reducible exact get2 m c | with_reducible exact get4 m c | with_reducible exact get6 m c) (by exact Memref.readAt_unit_zero (Elt F) _ hz2 _ _) ?_
    refine load_any m K c (M := sendbM) (T := Finset.univ) (q := fullShare) (Finset.subset_univ _) (Acc.left (Acc.left (Acc.right (Acc.right Acc.same)))) fun _ => ?_
    refine store_step m K c (M := sendbM) (T := Finset.univ) (Finset.subset_univ _) (Acc.left (Acc.left (Acc.right (Acc.right (Acc.ex (send_stored c _)))))) ?_
    refine load_any m K c (M := partM) (T := Finset.univ) (q := fullShare) (Finset.subset_univ _) (Acc.left (Acc.left (Acc.right (Acc.left Acc.same)))) fun _ => ?_
    refine store_step m K c (M := partM) (T := Finset.univ) (Finset.subset_univ _) (Acc.left (Acc.left (Acc.right (Acc.left (Acc.ex (part_stored c _)))))) ?_
    refine convA m K (rs_in m K c (by decide)) ?_
    iterate 31 refine rs_step m K c (by decide) (by exact devw c rfl) (by exact peer_off c rfl) (by exact own_off c rfl) (by rfl) ?_
    refine conv₂ m K (sd_recv m K) ?_
    iterate 30 refine wait_mid m K c (by decide) (by decide) (by decide) (by rfl) (by rfl) (wpE_waitDma2_eq 𝒱₀ (c : Thread nD τ) none Set.univ) ?_
    refine wait_last m K c (by decide) (by decide) (by decide) (by rfl) (by rfl) (wpE_waitDma2_eq 𝒱₀ (c : Thread nD τ) none Set.univ) ?_
    refine conv₂ m K (red_in m K c (by decide)) ?_
    refine part_load m K c (own_off c rfl) (Get.left (Get.left (Get.refl _))) ?_
    refine load_step m K c (M := landM) (T := Finset.univ) (q := fullShare) (Finset.subset_univ _) (Get.left (Get.right (Get.left (Get.refl _)))) (Memref.readAt_unit_zero (Elt F) cc0_scratch2 hz3 _ _) ?_
    refine xq_dead m K c (own_off c rfl) (Acc.left (Acc.right (Acc.right (Acc.keep _)))) fun _ => ?_
    refine xq_store m K c (own_off c rfl) (Acc.left (Acc.right (Acc.right (Acc.ex (red_stored m c _))))) ?_
    refine conv₂ m K (red_out m K c _) ?_
    iterate 31 refine drain_step m K c (by decide) (by decide) (by rfl) (by rfl) (wpE_waitDma2_eq 𝒱₀ (c : Thread nD τ) none Set.univ) ?_
    refine convB m K (rs_out m K c _) ?_
    refine convA m K (ag_in m K c (by decide)) ?_
    iterate 31 refine ag_step m K c (by decide) (by exact devw c rfl) (by exact own_off c rfl) (by exact own_off c rfl) (by rfl) ?_
    refine conv₂ m K (sd_recv m K) ?_
    iterate 30 refine wait_mid m K c (by decide) (by decide) (by decide) (by rfl) (by rfl) (wpE_waitDma2_eq 𝒱₀ (c : Thread nD τ) none Set.univ) ?_
    refine wait_last m K c (by decide) (by decide) (by decide) (by rfl) (by rfl) (wpE_waitDma2_eq 𝒱₀ (c : Thread nD τ) none Set.univ) ?_
    refine conv₂ m K (recv_dr m K) ?_
    iterate 31 refine drain_step m K c (by decide) (by decide) (by rfl) (by rfl) (wpE_waitDma2_eq 𝒱₀ (c : Thread nD τ) none Set.univ) ?_
    refine convB m K (ag_out m K c (by decide)) ?_
  refine load_step m K c (M := xqM) (T := Finset.univ) (q := fullShare) (Finset.subset_univ _) (Get.left (Get.left (Get.left (Get.refl _)))) (Memref.readAt_unit_zero (Elt F) cc0_scratch0 hz3 _ _) ?_
  refine load_any m K c (M := Memref.whole cc0_stg7_0) (T := Finset.univ) (q := fullShare) (Finset.subset_univ _) (Acc.right (Acc.right Acc.same)) fun _ => ?_
  refine store_step m K c (M := Memref.whole cc0_stg7_0) (T := Finset.univ) (Finset.subset_univ _) (Acc.right (Acc.right (Acc.ex (out_stored c _)))) ?_
  refine convA m K (leave m K c) ?_
  iterate 31 refine signal_step m K c 3 rfl (by decide) rfl (by exact devw c rfl) (by rfl) (by decide) ?_
  refine conv₂ m K (sig_recv m K) ?_
  refine wait_last m K c (by decide) (by decide) (by decide) (by rfl) (by rfl) (wpE_semWait_eq 𝒱₀ (c : Thread nD τ) none Set.univ) ?_
  exact ret_step c hQ

end Body
end Cert.KProof
end
-- ==== Proof.Finish.lean ====
/-
# The kernel's body as the pipeline runs it: the staged operands in, every cell closed
-/
module

public import proofs.«01_k».proof.Proof.Body

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

section Finish

set_option maxRecDepth 100000

variable (m : (ℓ : Loc nD τ sig) → Buf (Elt F) ℓ) (K : Dev nD × Kd → ℕ)

/-! ## The proof data -/

/-- What a device's body starts from: the standing facts at some names, the device's positions, rights and credit, its scratch buffers. -/
def Φ₀ (c : Dev nD) : sProp 𝕄 := iprop((∃ K, Rec (F := F) m K) ∗ Ghost c ∗ Scr c)
/-- What it ends with: the scratch buffers, and every cell of its own at zero. -/
def Φ₁ (c : Dev nD) : sProp 𝕄 := iprop(Scr (F := F) c ∗ bigSep Finset.univ fun kd : Kd => semVal (kcell c kd) 0)

/-- What the run of the region is described by: the operands as launched, what the body leaves in each staging buffer, and what a device owes before and after. -/
def dats (_ : Fin 1) (c : Dev nD) : Dat τ (Elt F) ℕ ℕ UU ℕ cfg0 c where
  A w := m ((cfg0.win w).arr.view.loc (c : Thread nD τ))
  after w _ := match w with
    | ⟨0, _⟩ => xstg m c
    | ⟨1, _⟩ => wi m 0 c
    | ⟨2, _⟩ => wo m 0 c
    | ⟨3, _⟩ => wi m 1 c
    | ⟨4, _⟩ => wo m 1 c
    | ⟨5, _⟩ => wi m 2 c
    | ⟨6, _⟩ => wo m 2 c
    | ⟨7, _⟩ => k0_pay17 (XQ m 3)
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The end of the body: every cell closed -/

/-- A cell past its last round closes: its counter, at zero, is the device's again. -/
theorem close_cell (c : Dev nD) (kd : Kd) : iprop(Rec (F := F) m K ∗ posR c kd (rounds kd)) ⊢ iprop(|={Set.univ}=> semVal (kcell c kd) 0) := by
  iintro ⟨#HR, Hp⟩
  ihave HI := (Rec_inv m K c kd) $$ HR
  iapply (Rounds.cell_close ER (Rd m) (Set.mem_univ (K (c, kd))) (fun h => h) (R := rounds kd) (duties_later m c kd))
  isplitl [HI] <;> iassumption

/-- All cells of a device close together. -/
theorem close_all (c : Dev nD) : iprop(Rec (F := F) m K ∗ bigSep Finset.univ fun kd : Kd => posR c kd (rounds kd)) ⊢ iprop(|={Set.univ}=> bigSep Finset.univ fun kd : Kd => semVal (kcell c kd) 0) :=
  BIBase.Entails.trans (bigSep_with_persistent fun kd _ => close_cell m K c kd) (bigSep_fupd _ _)

omit [FloatOps F] in
/-- Over four indices, listed. -/
theorem fin4 (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
/-- Over the kinds of cells. -/
theorem kds (Φ : Kd → sProp 𝕄) : bigSep Finset.univ Φ = iprop((Φ kBar ∗ Φ kAg ∗ Φ kRs ∗ Φ kEx) ∗ bigSep Finset.univ fun k : Fin 31 => Φ (kSn k)) := by
  rw [bigSep_univ_sum, fin4]; rfl

/-- A staging buffer at known contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body must leave. -/
def bodyPost (c : Dev nD) : sProp 𝕄 :=
  iprop(Φ₁ (F := F) c ∗ (dats m 0 c).owesAt 0 t0_0.succ
    ∗ stg c cc0_stg0_0 (xstg m c) ∗ stg c cc0_stg1_0 (wi m 0 c) ∗ stg c cc0_stg2_0 (wo m 0 c) ∗ stg c cc0_stg3_0 (wi m 1 c)
    ∗ stg c cc0_stg4_0 (wo m 1 c) ∗ stg c cc0_stg5_0 (wi m 2 c) ∗ stg c cc0_stg6_0 (wo m 2 c) ∗ stg c cc0_stg7_0 (k0_pay17 (XQ m 3)))

omit [FloatOps F] in
/-- A buffer held is a staging buffer at its contents. -/
theorem stg_intro (c : Dev nD) (b : Ref sig .tc) (X : b.ty.Contents (Elt F)) : (((c : Thread nD τ).loc b) ↦{fullShare} X : sProp 𝕄) ⊢ stg c b X := by
  iintro H; iexists X; isplitr; · (ipureintro; rfl)
  iexact H

/-- The body's last state closed. -/
theorem body_end (c : Dev nD) : iprop(Rec (F := F) m K ∗ recvd m c 8 ∗ ExK c ∗ Zin m c ∗ zO c (k0_pay17 (XQ m 3))) ⊢ iprop(|={Set.univ}=> bodyPost m c) := by
  unfold recvd ExK snPos Zin
  iintro ⟨#HR, ⟨⟨%W, HO⟩, HpE, -, -⟩, ⟨HpS, ⟨HpB, HpA, HpR⟩, Hscr⟩, ⟨H0, H1, H2, H3, H4, H5, H6⟩, H7⟩
  imod (close_all m K c) $$ [HpE HpS HpB HpA HpR] with Hz
  · isplitr; · iexact HR
    rw [kds]
    isplitr [HpS]
    · isplitl [HpB]; · iexact HpB
      isplitl [HpA]; · iexact HpA
      isplitl [HpR]; · iexact HpR
      iexact HpE
    iexact HpS
  imodintro
  unfold bodyPost Φ₁ Dat.owesAt Pipeline.owesWithin
  rw [show (dats m 0 c).owed t0_0.succ = 0 from rfl, later_last]
  isplitl [Hscr Hz]
  · isplitl [Hscr] <;> iassumption
  isplitl [HO]
  · iexists W
    isplitr; · ipureintro; exact fun _ _ => Or.inl trivial
    iexact HO
  isplitl [H0]; · iapply (stg_intro c cc0_stg0_0); iexact H0
  isplitl [H1]; · iapply (stg_intro c cc0_stg1_0); iexact H1
  isplitl [H2]; · iapply (stg_intro c cc0_stg2_0); iexact H2
  isplitl [H3]; · iapply (stg_intro c cc0_stg3_0); iexact H3
  isplitl [H4]; · iapply (stg_intro c cc0_stg4_0); iexact H4
  isplitl [H5]; · iapply (stg_intro c cc0_stg5_0); iexact H5
  isplitl [H6]; · iapply (stg_intro c cc0_stg6_0); iexact H6
  iapply (stg_intro c cc0_stg7_0); iexact H7

/-! ## The body's obligation -/

omit [FloatOps F] in
/-- The library's statement that a whole buffer is held at `X`. -/
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄) = stg c b X := by
  unfold owns; simp only [Memref.view_whole, View.read_whole, View.set_whole]

/-- What the body starts from. -/
def bodyPre (c : Dev nD) : sProp 𝕄 :=
  iprop(Φ₀ m c ∗ (dats m 0 c).owesAt 0 t0_0.castSucc
    ∗ (∃ d, stg c cc0_stg0_0 ((dats m 0 c).before (0 : Fin 8) t0_0 d)) ∗ (∃ d, stg c cc0_stg1_0 ((dats m 0 c).before (1 : Fin 8) t0_0 d))
    ∗ (∃ d, stg c cc0_stg2_0 ((dats m 0 c).before (2 : Fin 8) t0_0 d)) ∗ (∃ d, stg c cc0_stg3_0 ((dats m 0 c).before (3 : Fin 8) t0_0 d))
    ∗ (∃ d, stg c cc0_stg4_0 ((dats m 0 c).before (4 : Fin 8) t0_0 d)) ∗ (∃ d, stg c cc0_stg5_0 ((dats m 0 c).before (5 : Fin 8) t0_0 d))
    ∗ (∃ d, stg c cc0_stg6_0 ((dats m 0 c).before (6 : Fin 8) t0_0 d)) ∗ (∃ d, stg c cc0_stg7_0 ((dats m 0 c).before (7 : Fin 8) t0_0 d)))

/-- A fetched operand's staging buffer holds its block. -/
theorem staged (c : Dev nD) (w : Fin cfg0.W) (hw : (cfg0.win w).fetch t0_0 = true) (d) :
    (dats (F := F) m 0 c).before w t0_0 d = (dats m 0 c).fetched w t0_0 d := by
  unfold Dat.before; exact if_pos hw

/-- It gives the protocol's start and the staged operands. -/
theorem pre_open (c : Dev nD) : bodyPre (F := F) m c ⊢ iprop(∃ K, Rec (F := F) m K ∗ ((∃ W, owes (c : Thread nD τ) (O₀ c) W) ∗ Ghost c ∗ Scr c) ∗ Z m c) := by
  unfold bodyPre Φ₀ Dat.owesAt Pipeline.owesWithin
  iintro ⟨⟨⟨%K, #HR⟩, HG, HS⟩, ⟨%W, %hW, HO⟩, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩, ⟨%d6, %g6, %h6, H6⟩, ⟨%d7, %g7, %h7, H7⟩⟩
  have e0 : g0 = xstg m c := h0.trans (staged m c (0 : Fin 8) (fetch0_0 t0_0) d0)
  have e1 : g1 = wi m 0 c := h1.trans (staged m c (1 : Fin 8) (fetch0_1 t0_0) d1)
  have e2 : g2 = wo m 0 c := h2.trans (staged m c (2 : Fin 8) (fetch0_2 t0_0) d2)
  have e3 : g3 = wi m 1 c := h3.trans (staged m c (3 : Fin 8) (fetch0_3 t0_0) d3)
  have e4 : g4 = wo m 1 c := h4.trans (staged m c (4 : Fin 8) (fetch0_4 t0_0) d4)
  have e5 : g5 = wi m 2 c := h5.trans (staged m c (5 : Fin 8) (fetch0_5 t0_0) d5)
  have e6 : g6 = wo m 2 c := h6.trans (staged m c (6 : Fin 8) (fetch0_6 t0_0) d6)
  subst e0 e1 e2 e3 e4 e5 e6
  rw [show (dats m 0 c).owed t0_0.castSucc = O₀ c from rfl]
  iexists K
  isplitr; · iexact HR
  isplitl [HO HG HS]
  · isplitl [HO]; · iexists W; iexact HO
    isplitl [HG] <;> iassumption
  isplitr [H7]
  · isplitl [H0]; · iexact H0
    isplitl [H1]; · iexact H1
    isplitl [H2]; · iexact H2
    isplitl [H3]; · iexact H3
    isplitl [H4]; · iexact H4
    isplitl [H5]; · iexact H5
    iexact H6
  iexists g7; iexact H7

/-- The body from the staged windows. -/
theorem body_sound (c : Dev nD) : bodyPre (F := F) m c ⊢ WP c kbody (fun _ => bodyPost m c) := by
  refine BIBase.Entails.trans (pre_open m c) ?_
  iintro ⟨%K, H⟩
  iapply (body_run m K c (fun _ => bodyPost m c) (body_end m K c))
  iexact H

/-- The library's body obligation. -/
theorem body_obligation (c : Dev nD) : BodyObligation (dats (F := F) m 0 c) (defs₀ (F := F)) 𝒱₀ 0 Set.univ := fun t => by
  rw [fin_N0 t]
  rw [bigSep_W0, bigSep_W0]
  simp only [owns_whole_eq]
  show bodyPre m c ⊢ wp frame (wpE (defs₀ (F := F)) 𝒱₀ (c : Thread nD τ) none) Set.univ kbody (fun _ => bodyPost m c)
  exact body_sound m c

end Finish
end Cert.KProof
end
-- ==== Proof.Deal.lean ====
/-
# The launch: every cell under its invariant, the rights to pay dealt to who pays
-/
module

public import proofs.«01_k».proof.Proof.Finish

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

section Launch

set_option maxRecDepth 100000

variable (m : (ℓ : Loc nD τ sig) → Buf (Elt F) ℓ) (ρ : Dev nD → PrngReg)

/-! ## The cells -/

/-- The kernel's own scoped semaphores: all but the entry barrier. -/
abbrev osem : Fin 3 ⊕ Fin 31 → SemLoc sig
  | .inl i => csem (.inl i.succ)
  | .inr k => csem (.inr k)

/-- The cells other than the entry barrier are distinct scoped semaphores. -/
theorem ownSemFacts : Pipeline.OwnSemFacts cfg0.spec osem := by decide +kernel

/-- A cell of the protocol by device and kind. -/
abbrev cellAt (x : Dev nD × Kd) : GSem nD τ sig := kcell x.1 x.2
/-- Different devices or kinds have different cells. -/
theorem cellAt_injective : Function.Injective cellAt := fun _ _ h => Prod.ext (kcell_inj h).1 (kcell_inj h).2
/-- All cells of the protocol. -/
def theCells : Finset (GSem nD τ sig) := Finset.univ.map ⟨cellAt, cellAt_injective⟩

/-! ## The rights to pay -/

/-- The rights, named by who pays: device, phase and payee; or device, round and copy. -/
abbrev Tk : Type := (Dev nD × Fin 9 × Dev nD) ⊕ (Dev nD × Fin 7 × Fin 31)
/-- The cell, round and duty of each right. -/
abbrev tokOf : Tk → GSem nD τ sig × ℕ × Dev nD
  | .inl (c, p, e) => (kcell e (pk p.val), pr p.val, c)
  | .inr (c, r, k) => (kcell c (kSn k), r.val, c)

/-- A phase is told by its kind of cell and its round. -/
theorem phase_inj (p q : Fin 9) (h : pk p.val = pk q.val) (h' : pr p.val = pr q.val) : p = q := by
  revert p q; decide +kernel
/-- No phase pays into a departure cell. -/
theorem pk_ne_sn (p : ℕ) (k : Fin 31) : pk p ≠ kSn k := by
  obtain ⟨i, h⟩ := pk_inl p
  rw [h]; exact fun h => by cases h

/-- No right is named twice. -/
theorem tokOf_injective : Function.Injective tokOf := by
  rintro (⟨c, p, e⟩ | ⟨c, r, k⟩) (⟨c', p', e'⟩ | ⟨c', r', k'⟩) h
  · obtain ⟨h1, h2⟩ := kcell_inj (congrArg Prod.fst h)
    have h3 : pr p.val = pr p'.val := congrArg (fun x => x.2.1) h
    have h4 : c = c' := congrArg (fun x => x.2.2) h
    rw [phase_inj p p' h2 h3, h1, h4]
  · exact absurd (kcell_inj (congrArg Prod.fst h)).2 (pk_ne_sn _ _)
  · exact absurd (kcell_inj (congrArg Prod.fst h)).2.symm (pk_ne_sn _ _)
  · obtain ⟨h1, h2⟩ := kcell_inj (congrArg Prod.fst h)
    have h3 : r = r' := Fin.ext (congrArg (fun x => x.2.1) h)
    rw [h1, Sum.inr.inj h2, h3]
/-- All rights. -/
def theToks : Finset (GSem nD τ sig × ℕ × Dev nD) := Finset.univ.map ⟨tokOf, tokOf_injective⟩

/-- The ghost state dealt at launch: the pipeline's and the protocol's. -/
def u₀ : UU :=
  (initOf (Pipeline.cells cfgs cellOf_inj) (Pipeline.launchToks cfgs cellOf_inj), initOf theCells theToks)

/-- What device `c` will pay with. -/
def payTok (c : Dev nD) : sProp 𝕄 := iprop(bigSep (Finset.Ico 0 9) (phTok (F := F) c) ∗ SnFut c 0)

omit [FloatOps F] in
/-- The first numbers, listed. -/
theorem ico_fin (n : ℕ) (Φ : ℕ → sProp 𝕄) : bigSep (Finset.Ico 0 n) Φ = bigSep Finset.univ fun i : Fin n => Φ i.val := by
  rw [show Finset.Ico 0 n = Finset.univ.map Fin.valEmbedding from by
    ext x; simp only [Finset.mem_Ico, Finset.mem_map, Finset.mem_univ, true_and, Nat.zero_le]
    exact ⟨fun h => ⟨⟨x, h⟩, rfl⟩, fun ⟨i, h⟩ => h ▸ i.isLt⟩, bigSep_map]
  rfl

omit [FloatOps F] in
/-- The rights, gathered by who pays. -/
theorem toks_deal : bigSep theToks (fun x => (dutyTok ER x.1 x.2.1 x.2.2 : sProp 𝕄)) ⊢ bigSep Finset.univ fun c : Dev nD => payTok (F := F) c := by
  have h1 : (bigSep Finset.univ fun c : Dev nD => bigSep Finset.univ fun pe : Fin 9 × Dev nD => (dutyTok ER (kcell pe.2 (pk pe.1.val)) (pr pe.1.val) c : sProp 𝕄))
      ⊢ bigSep Finset.univ fun c : Dev nD => bigSep (Finset.Ico 0 9) (phTok (F := F) c) := by
    refine each fun c => ?_
    rw [bigSep_univ_prod, ico_fin]
    refine each fun p => ?_
    rw [own_oth c]
    unfold phTok
    iintro ⟨-, H⟩
    iexact H
  have h2 : (bigSep Finset.univ fun c : Dev nD => bigSep Finset.univ fun rk : Fin 7 × Fin 31 => (dutyTok ER (kcell c (kSn rk.2)) rk.1.val c : sProp 𝕄))
      ⊢ bigSep Finset.univ fun c : Dev nD => SnFut (F := F) c 0 := by
    refine each fun c => ?_
    unfold SnFut
    rw [bigSep_univ_prod, ico_fin]
    exact each fun r => BI.Entails.refl _
  have e : bigSep theToks (fun x => (dutyTok ER x.1 x.2.1 x.2.2 : sProp 𝕄))
      = iprop((bigSep Finset.univ fun c : Dev nD => bigSep Finset.univ fun pe : Fin 9 × Dev nD => (dutyTok ER (kcell pe.2 (pk pe.1.val)) (pr pe.1.val) c : sProp 𝕄))
        ∗ bigSep Finset.univ fun c : Dev nD => bigSep Finset.univ fun rk : Fin 7 × Fin 31 => (dutyTok ER (kcell c (kSn rk.2)) rk.1.val c : sProp 𝕄)) := by
    unfold theToks
    rw [bigSep_map, bigSep_univ_sum, bigSep_univ_prod, bigSep_univ_prod]; rfl
  rw [e]
  unfold payTok
  rw [bigSep_sep']
  exact BI.sep_mono h1 h2

/-! ## The deal -/

/-- What the launch element deals device `c`. -/
def G (c : Dev nD) : sProp 𝕄 :=
  iprop((bigSep Finset.univ fun kd : Kd => roundState ER (Rd m) (kcell c kd) 0)
    ∗ (bigSep Finset.univ fun kd : Kd => posR c kd 0) ∗ (bigSep Finset.univ fun kd : Kd => rch c kd 0) ∗ payTok c)

/-- What device `c` keeps: positions and rights. -/
def keeps (c : Dev nD) : sProp 𝕄 := iprop((bigSep Finset.univ fun kd : Kd => posR (F := F) c kd 0) ∗ payTok c)

/-- The invariants of all cells, and that every cell's first round has begun. -/
def records (K : Dev nD × Kd → ℕ) : sProp 𝕄 :=
  iprop((bigSep Finset.univ fun x : Dev nD × Kd => cellInv ER (Rd m) (K x) (kcell x.1 x.2))
    ∗ bigSep Finset.univ fun x : Dev nD × Kd => reached ER (kcell x.1 x.2) 0)
/-- What is recorded stays known. -/
instance records_persistent (K : Dev nD × Kd → ℕ) : BI.Persistent (records (F := F) m K) := by unfold records; infer_instance

/-- What the global step makes of a device's deal. -/
def G' (c : Dev nD) : sProp 𝕄 := iprop(∃ K, records (F := F) m K ∗ keeps c)

/-- The protocol's initial ghost state is dealt to the devices. -/
theorem fund_all : BI.own (ER (initOf theCells theToks)) ⊢ (|==> bigSep Finset.univ (G m) : sProp 𝕄) := by
  have hX (Φ : GSem nD τ sig → sProp 𝕄) : bigSep theCells Φ = bigSep Finset.univ fun c : Dev nD => bigSep Finset.univ fun kd : Kd => Φ (kcell c kd) := by
    unfold theCells; rw [bigSep_map, bigSep_univ_prod]; rfl
  iintro HX
  imod (Rounds.fund ER (Rd m) theCells theToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (toks_deal (F := F)) $$ Htok
  unfold G; simp only [bigSep_sep']
  isplitl [Hst']; · iexact Hst'
  isplitl [Hat']; · iexact Hat'
  isplitl [Hr']; · iexact Hr'
  iexact Htok'

omit [FloatOps F] in
/-- The entry barrier is the launch's one unscoped semaphore. -/
theorem unscopedSems0_eq (c : Dev nD) : (unscopedSems0 c : sProp 𝕄) = semVal (kcell c kBar) 0 := by
  unfold unscopedSems0; rw [bigSep_eq_bigSepL_of_eq [csem kBar] (by decide +kernel) (by decide)]; rfl

omit [FloatOps F] in
/-- The counters of a device's cells are its own scoped ones and the barrier's. -/
theorem sems0_eq (c : Dev nD) :
    (bigSep Finset.univ fun kd : Kd => semVal (kcell c kd) 0 : sProp 𝕄)
      = iprop((semVal (kcell c kBar) 0 ∗ semVal (kcell c kAg) 0 ∗ semVal (kcell c kRs) 0 ∗ semVal (kcell c kEx) 0) ∗ bigSep Finset.univ fun k : Fin 31 => semVal (kcell c (kSn k)) 0) :=
  kds fun kd => semVal (kcell c kd) 0
omit [FloatOps F] in
/-- A device's own counters, listed by kind. -/
theorem ownSems0_eq (c : Dev nD) : (Pipeline.ownSems0 (Ix := ℕ) (Name := ℕ) (U := UU) (Lvl := ℕ) (Val := Elt F) (τ := τ) osem c : sProp 𝕄)
    = iprop((semVal (kcell c kAg) 0 ∗ semVal (kcell c kRs) 0 ∗ semVal (kcell c kEx) 0) ∗ bigSep Finset.univ fun k : Fin 31 => semVal (kcell c (kSn k)) 0) := by
  unfold Pipeline.ownSems0
  rw [bigSep_univ_sum, bigSep_univ_eq_bigSepL [0, 1, 2] (by decide) (by decide)]; rfl
omit [FloatOps F] in
/-- Its own counters and the barrier's are the counters of all its cells. -/
theorem sems0_all (c : Dev nD) : iprop(Pipeline.ownSems0 (Ix := ℕ) (Name := ℕ) (U := UU) (Lvl := ℕ) (Val := Elt F) (τ := τ) osem c ∗ unscopedSems0 c)
    ⊢ (bigSep Finset.univ fun kd : Kd => semVal (kcell c kd) 0 : sProp 𝕄) := by
  rw [ownSems0_eq, unscopedSems0_eq, sems0_eq]
  iintro ⟨⟨⟨HA, HR, HE⟩, HS⟩, HB⟩
  isplitr [HS]
  · isplitl [HB]; · iexact HB
    isplitl [HA]; · iexact HA
    isplitl [HR] <;> iassumption
  iexact HS

/-- Each device's cells are put under invariants. -/
theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun kd => iprop(∃ κ : ℕ, cellInv ER (Rd m) κ (kcell c kd)))
          ∗ (bigSep Finset.univ fun kd : Kd => rch c kd 0) ∗ keeps c) := by
  unfold G
  iintro ⟨Hos, Hus, Hst, Hat, Hr, Htok⟩
  ihave Hv := (sems0_all (F := F) c) $$ [Hos Hus]
  · isplitl [Hos] <;> iassumption
  imod (show iprop((bigSep Finset.univ fun kd : Kd => semVal (kcell c kd) 0) ∗ bigSep Finset.univ fun kd : Kd => roundState ER (Rd m) (kcell c kd) 0)
      ⊢ (|={Set.univ}=> bigSep Finset.univ fun kd => iprop(∃ κ : ℕ, cellInv ER (Rd m) κ (kcell c kd)) : sProp 𝕄) from by
        rw [← bigSep_sep']
        exact (bigSep_mono fun kd _ => (Rounds.body_intro ER (Rd m) (kcell c kd)).trans inv_alloc).trans (bigSep_fupd _ _)) $$ [Hv Hst] with Hinv
  · isplitl [Hv] <;> iassumption
  imodintro
  isplitl [Hinv]; · iexact Hinv
  isplitl [Hr]; · iexact Hr
  unfold keeps
  isplitl [Hat] <;> iassumption

/-- Once every cell has its invariant, each device gets the whole record and what it keeps. -/
theorem regroup :
    (bigSep Finset.univ fun c : Dev nD => iprop((bigSep Finset.univ fun kd => iprop(∃ κ : ℕ, cellInv ER (Rd m) κ (kcell c kd)))
          ∗ (bigSep Finset.univ fun kd : Kd => rch c kd 0) ∗ keeps c) : sProp 𝕄)
      ⊢ bigSep Finset.univ (G' m) := by
  rw [bigSep_sep', bigSep_sep', ← bigSep_univ_prod (fun x : Dev nD × Kd => iprop(∃ κ : ℕ, cellInv ER (Rd m) κ (kcell x.1 x.2))),
    ← bigSep_univ_prod (fun x : Dev nD × Kd => (reached ER (kcell x.1 x.2) 0 : sProp 𝕄))]
  iintro ⟨HI, #HR, Hk⟩
  ihave HK := (BI.bigSep_exists_pi Finset.univ (fun (x : Dev nD × Kd) (κ : ℕ) => (cellInv ER (Rd m) κ (kcell x.1 x.2) : sProp 𝕄))) $$ HI
  icases HK with ⟨%K, #HI⟩
  iapply (bigSep_with_persistent (R := records m K) (Φ := keeps) fun c _ => by unfold G'; iintro H; iexists K; iexact H)
  isplitr
  · unfold records; isplitl; · iexact HI
    iexact HR
  iexact Hk

/-- The global step: every device's semaphores at once. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Launch
end Cert.KProof
end
-- ==== Proof.Launch.lean ====
/-
# The run of all devices
-/
module

public import proofs.«01_k».proof.Proof.Deal
public import Idealize.ShloMosaic.Lib.Pipeline.CollectiveSegs

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

section Launch

set_option maxRecDepth 100000

variable (m : (ℓ : Loc nD τ sig) → Buf (Elt F) ℓ) (ρ : Dev nD → PrngReg)

/-! ## The credit dealt at launch -/

omit [FloatOps F] in
/-- Owing a count so many times over is owing the product. -/
theorem nsmul_tallyAt (n : ℕ) (g : GSem nD τ sig) (ι a : ℕ) : n • (tallyAt g ι a : CellTallies nD τ sig ℕ) = tallyAt g ι (n * a) := by
  induction n with
  | zero => rw [zero_smul, Nat.zero_mul, tallyAt_zero]
  | succ n ih => rw [succ_nsmul, ih, tallyAt_add, Nat.succ_mul]

omit [FloatOps F] in
/-- All that is owed in a phase: every device its 31 payments. -/
theorem phase_sum (p : ℕ) : (∑ d : Dev nD, ∑ e ∈ Finset.univ.erase d, due p e) = ∑ d : Dev nD, (tallyAt (kcell d (pk p)) (p + 1) (31 * amt (pk p)) : CellTallies nD τ sig ℕ) := by
  rw [Finset.sum_comm' (s' := fun e => Finset.univ.erase e) (t' := Finset.univ) (h := fun d e => by simp [ne_comm])]
  refine Finset.sum_congr rfl fun e _ => ?_
  rw [Finset.sum_const, ← nsmul_tallyAt, Finset.card_erase_of_mem (Finset.mem_univ _)]; rfl

omit [FloatOps F] in
/-- The launch deals every phase's credit. -/
theorem creds (c : Dev nD) : (Pipeline.launchCred O₀ c : sProp 𝕄) ⊢ bigSep (Finset.Ico 0 9) (phCred c) := by
  rw [show (O₀ : Dev nD → CellTallies nD τ sig ℕ) = fun d => ∑ p ∈ Finset.range 9, ∑ e ∈ Finset.univ.erase d, due p e from funext O₀_eq,
    Pipeline.launchCred_sum, Finset.range_eq_Ico]
  refine bigSep_mono fun p _ => ?_
  unfold phCred
  exact Entails.of_eq (Pipeline.launchCred_of_sum (fun d => ∑ e ∈ Finset.univ.erase d, due p e) (fun d => tallyAt (kcell d (pk p)) (p + 1) (31 * amt (pk p))) (phase_sum p)
    (fun d g hg => by
      by_contra hne
      exact hg (tallyAt_ne_cell (fun h => hne (congrArg Prod.fst h)) _ _)) c)

/-! ## What the launch asks -/

/-- What a device's run starts from, but for its scratch buffers. -/
def start (c : Dev nD) : sProp 𝕄 := iprop((∃ K, Rec (F := F) m K) ∗ Ghost c)

/-- A device's deal and its credit are what its run starts from. -/
theorem start_of (c : Dev nD) : iprop(levAts L lv ∗ Pipeline.launchCred O₀ c ∗ G' m c) ⊢ start (F := F) m c := by
  unfold G' records keeps payTok
  rw [kds fun kd => posR (F := F) c kd 0]
  iintro ⟨Hl, Hc, ⟨%K, ⟨HI, HR⟩, ⟨⟨HB, HA, HS, HE⟩, HN⟩, HP, HF⟩⟩
  ihave Hc := (creds (F := F) c) $$ Hc
  unfold start Rec Ghost Fut snPos
  rw [bigSep_sep' (Finset.Ico 0 9) (phTok c) (phCred c)]
  isplitl [Hl HI HR]
  · iexists K
    isplitl [HI]; · iexact HI
    isplitl [HR] <;> iassumption
  isplitl [HB HA HS HE HN]
  · isplitl [HB]; · iexact HB
    isplitl [HA]; · iexact HA
    isplitl [HS]; · iexact HS
    isplitl [HE] <;> iassumption
  isplitr [HF]
  · isplitl [HP] <;> iassumption
  iexact HF

/-- What the launch leaves a device is what it starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  imodintro
  isplitl
  · iapply (start_of m c)
    isplitl [Hlev]; · iexact Hlev
    isplitl [Hcr] <;> iassumption
  · iempintro

/-- With its scratch buffers a device's body may start. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold start Φ₀
  iintro ⟨⟨HR, HG⟩, -, HS⟩
  isplitl [HR]; · iexact HR
  isplitl [HG]; · iexact HG
  iexact HS

/-- The body's end gives the semaphores and the scratch buffers back. -/
theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq]
  unfold Φ₁
  rw [sems0_eq]
  iintro ⟨Hs, ⟨HB, HA, HR, HE⟩, HN⟩
  isplitl [HB]; · iexact HB
  isplitr [Hs]
  · isplitr [HN]
    · isplitl [HA]; · iexact HA
      isplitl [HR] <;> iassumption
    iexact HN
  iexact Hs

/-- The pipeline's own waits are below all that the body owes. -/
theorem waits (c : Dev nD) : (levAts L lv : sProp 𝕄) ⊢ Pipeline.cellsWaits cfgs (dats m) 0 0 c :=
  Pipeline.cellsWaits_intro cfgs (dats m) 0 0 c fun w s t =>
    mayWait_stage c _ _ (by
      rcases t with ⟨_ | _, ht⟩
      · exact Or.inl rfl
      · exact Or.inr rfl)

/-- Every operand is held whole. -/
theorem share_eq (c : Dev nD) (w : Fin cfg0.W) : (dats m 0 c).share w = fullShare := by
  unfold Dat.share; split <;> rfl

/-! ## The run -/

/-- Device `c`'s array of window `w` after the run. -/
def finalA (c : Dev nD) (w : Fin cfg0.W) : Buf (Elt F) ((cfg0.win w).arr.view.loc (c : Thread nD τ)) := (dats m 0 c).arrAt w cfg0.N

/-- Every device's arrays are as computed. -/
def QC : PUnit × MemSt nD τ sig (Elt F) → Prop := fun r =>
  ∀ c : Dev nD, ∀ w : Fin cfg0.W, r.2.mem ((cfg0.win w).arr.view.loc (c : Thread nD τ)) = finalA m c w

/-- The state a run starts from: any memory, every counter zero. -/
abbrev s₀ : MemSt nD τ sig (Elt F) := ⟨m, fun _ => 0, ρ⟩

/-- From any memory with zero counters every weakly fair execution of the 32 devices ends, with each device's arrays as computed and every counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Launch
end Cert.KProof
end
-- ==== Proof.Frames.lean ====
/-
# The arguments after the run
-/
module

public import proofs.«01_k».proof.Proof.Launch
public import proofs.«01_k».proof.Proof.Gen.Kernel

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

section Frames

variable (m : (ℓ : Loc nD τ sig) → Buf (Elt F) ℓ) (ρ : Dev nD → PrngReg)

/-- Device `c`'s arguments in the memory of `s` are as in `m`. -/
abbrev ArgsKept (s : MemSt nD τ sig (Elt F)) (c : Dev nD) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)

/-- The run leaves every argument as it was. -/
theorem args_kept (r : PUnit × MemSt nD τ sig (Elt F)) (h : QC m r) (c : Dev nD) : ArgsKept m r.2 c :=
  ⟨(h c 0).trans ((dats m 0 c).arrAt_in 0 rfl _), (h c 1).trans ((dats m 0 c).arrAt_in 1 rfl _), (h c 3).trans ((dats m 0 c).arrAt_in 3 rfl _),
    (h c 5).trans ((dats m 0 c).arrAt_in 5 rfl _), (h c 2).trans ((dats m 0 c).arrAt_in 2 rfl _), (h c 4).trans ((dats m 0 c).arrAt_in 4 rfl _),
    (h c 6).trans ((dats m 0 c).arrAt_in 6 rfl _)⟩

/-- Every run ends with the arguments as they were and every counter at zero. -/
theorem run_frame : θ_run defs (onTc (τ := τ) (main (F := F))) ⟨m, fun _ => 0, ρ⟩ (fun r => (∀ c : Dev nD, ArgsKept m r.2 c) ∧ r.2.sem = fun _ => 0) :=
  (θ_run defs _ _).mono (fun r h => ⟨args_kept m r h.1, h.2⟩) (run_main m ρ)

/-! ## The program read at the chip's floats is the same program -/

set_option maxRecDepth 100000

/-- The kernel's body is printed the same in both programs, -/
theorem body_same : @Cert.Kernel.cc0_body F _ _ = @Cert.KernelIdeal.cc0_body F _ _ := rfl
/-- so the table of bodies is the same, -/
theorem defs₀_same : (Cert.Kernel.defs₀ (F := F)) = (Cert.KernelIdeal.defs₀ (F := F)) := by
  funext p l
  cases p with
  | tc =>
    obtain ⟨_ | l, hl⟩ := l
    · funext ⟨t, s⟩
      rfl
    · exact absurd hl (by simp)
  | scScalar _ => rfl
  | scVector _ _ => rfl
/-- and the whole program's. -/
theorem defs_same : (Cert.Kernel.defs (F := F)) = (Cert.KernelIdeal.defs (F := F)) := congrArg (Pipeline.defs Cert.KernelIdeal.pcfgs) defs₀_same

/-- The printed kernel's runs end as the other's do. -/
theorem run_frame_kernel : θ_run (Cert.Kernel.defs (F := F)) (onTc (τ := τ) (Cert.Kernel.main (F := F))) ⟨m, fun _ => 0, ρ⟩
    (fun r => (∀ c : Dev nD, ArgsKept m r.2 c) ∧ r.2.sem = fun _ => 0) :=
  (congrArg (fun D => θ_run D (onTc (τ := τ) (main (F := F))) ⟨m, fun _ => 0, ρ⟩ (fun r => (∀ c : Dev nD, ArgsKept m r.2 c) ∧ r.2.sem = fun _ => 0)) defs_same).mpr (run_frame m ρ)

end Frames
end Cert.KProof
end
-- ==== Proof.Value.lean ====
/-
# What the kernel computes, over exact numbers

Each layer is two matrix products with a maximum against zero between them. The kernel cuts the inner
dimension into 32 blocks, one per device, and adds up the 32 partial products; the reference takes the
whole sum at once. Over exact numbers the two are the same sum, regrouped.
-/
module

public import proofs.«01_k».proof.Proof.Launch
public import proofs.«01_k».proof.Proof.Gen.ReferenceIdeal
public import Idealize.ShloMosaic.Lib.MatmulPlain
public import Idealize.ShloMosaic.Lib.StackMember
public import Idealize.ShloMosaic.Lib.IdealHost
public import Idealize.ShloMosaic.Lib.ValueLayout
public import Idealize.ShloMosaic.Lib.Layout

@[expose] public section

noncomputable section

namespace Cert.KProof

open Cert.KernelIdeal Cert.KernelIdeal.Gen

open Idealize.ShloMosaic
open Idealize.ShloMosaic.TcCoe
open Idealize.ShloMosaic.ValueIdx
open Idealize.ShloMosaic.Pipeline (Dat Cfg Window)

/-! ## The maths of one layer -/

/-- The shape of a whole first weight, -/
abbrev SW1 : Shape := ⟨2, ![512, 32768]⟩
/-- and of a whole second one. -/
abbrev SW2 : Shape := ⟨2, ![32768, 512]⟩

/-- One entry of a layer's result: a sum over the inner dimension of the clipped first product times the second weight. -/
def layerAt {n : ℕ} (X : FVec Ideal ⟨2, ![2048, 512]⟩ .bf16) (A : FVec Ideal ⟨2, ![512, n]⟩ .bf16) (B : FVec Ideal ⟨2, ![n, 512]⟩ .bf16)
    (p : Fin 2048) (z : Fin 512) : EReal :=
  ∑ k : Fin n, max (∑ j : Fin 512, X (ix2 p j) * A (ix2 j k)) 0 * B (ix2 k z)

/-- A sum over the inner dimension is the sum over the 32 blocks of the sums within them. -/
theorem sum_blocks (f : Fin 32768 → EReal) :
    ∑ K : Fin 32768, f K = ∑ e : Fin 32, ∑ k : Fin 1024, f ⟨e.val * 1024 + k.val, by omega⟩ := by
  rw [← Fintype.sum_prod_type' (f := fun (e : Fin 32) (k : Fin 1024) => f ⟨e.val * 1024 + k.val, by omega⟩)]
  symm
  refine Fintype.sum_equiv (finProdFinEquiv (m := 32) (n := 1024)) _ f fun x => congrArg f (Fin.ext ?_)
  show x.1.val * 1024 + x.2.val = x.2.val + 1024 * x.1.val
  omega

/-- A layer cut into 32 blocks of the inner dimension is the sum of the blocks' layers. -/
theorem layer_blocks (X : FVec Ideal ⟨2, ![2048, 512]⟩ .bf16) (A : FVec Ideal SW1 .bf16) (B : FVec Ideal SW2 .bf16)
    (a : Fin 32 → FVec Ideal ⟨2, ![512, 1024]⟩ .bf16) (b : Fin 32 → FVec Ideal ⟨2, ![1024, 512]⟩ .bf16)
    (ha : ∀ e (j : Fin 512) (k : Fin 1024), a e (ix2 j k) = A (ix2 j ⟨e.val * 1024 + k.val, by omega⟩))
    (hb : ∀ e (k : Fin 1024) (z : Fin 512), b e (ix2 k z) = B (ix2 ⟨e.val * 1024 + k.val, by omega⟩ z)) (p : Fin 2048) (z : Fin 512) :
    ∑ e : Fin 32, layerAt X (a e) (b e) p z = layerAt X A B p z := by
  unfold layerAt
  rw [sum_blocks]
  refine Finset.sum_congr rfl fun e _ => Finset.sum_congr rfl fun k _ => ?_
  rw [hb]
  simp only [ha]

/-! ## The reference's layer -/

/-- A layer as the reference writes it. -/
def refLayer (X : FVec Ideal ⟨2, ![2048, 512]⟩ .bf16) (A : FVec Ideal SW1 .bf16) (B : FVec Ideal SW2 .bf16) : FVec Ideal ⟨2, ![2048, 512]⟩ .bf16 :=
  truncf .bf16 (Host.dotGeneral Cert.ReferenceIdeal.dot_S2048x32768_S32768x512_S2048x512_1_0_0_1_n_n none
    (maximumf (truncf .bf16 (Host.dotGeneral Cert.ReferenceIdeal.dot_S2048x512_S512x32768_S2048x32768_1_0_0_1_n_n none X A) Cert.ReferenceIdeal.Gen.bitsLt_bf16_f32)
      (broadcastInDim Cert.ReferenceIdeal.S2048x32768 ![] Cert.ReferenceIdeal.Gen.bcast_S_S2048x32768 (constant Cert.ReferenceIdeal.S_ .bf16 0x0000#16))) B) Cert.ReferenceIdeal.Gen.bitsLt_bf16_f32

/-- It is the layer's sum. -/
theorem refLayer_apply (X : FVec Ideal ⟨2, ![2048, 512]⟩ .bf16) (A : FVec Ideal SW1 .bf16) (B : FVec Ideal SW2 .bf16) (p : Fin 2048) (z : Fin 512) :
    refLayer X A B (ix2 p z) = layerAt X A B p z := by
  refine (StackMember.dotGeneral_plain_apply (m := 2048) (k := 32768) (n := 512) none _ B p z).trans (Finset.sum_congr rfl fun k _ => congrArg (· * B (ix2 k z)) ?_)
  refine congrArg₂ max (StackMember.dotGeneral_plain_apply (m := 2048) (k := 512) (n := 32768) none X A p k) ?_
  exact (broadcastInDim_scalar_apply _ _ _).trans Ideal.ofBits_zero_bf16

/-! ## The kernel's payloads -/

/-- Row `y` of slab `d` among all rows. -/
def row (d : Fin 32) (y : Fin 64) : Fin 2048 := ⟨64 * d.val + y.val, by omega⟩

/-- Slabs laid end to end. -/
theorem flat_apply (X : Vec Ideal S32x64x512 .bf16) (d : Fin 32) (y : Fin 64) (z : Fin 512) :
    k0_pay3 (F := Ideal) X (ix2 (row d y) z) = X (ix3 d y z) :=
  shapeCast_apply X _ _ _ (by
    rw [Shape.rowMajor_val_three, Shape.rowMajor_val_two]
    show (d.val * 64 + y.val) * 512 + z.val = (64 * d.val + y.val) * 512 + z.val
    omega)

/-- A device's partial product is the layer at its own blocks of the weights. -/
theorem part_apply (X : FVec Ideal S2048x512 .bf16) (a : Vec Ideal S512x1024 .bf16) (b : Vec Ideal S1024x512 .bf16) (d : Fin 32) (y : Fin 64) (z : Fin 512) :
    k0_pay4 (F := Ideal) X a b (ix3 d y z) = layerAt X a b (row d y) z := by
  unfold k0_pay4
  refine (shapeCast_apply (s := S2048x512) _ _ (ix3 d y z) (ix2 (row d y) z) (by
    rw [Shape.rowMajor_val_three, Shape.rowMajor_val_two]
    show (64 * d.val + y.val) * 512 + z.val = (d.val * 64 + y.val) * 512 + z.val
    omega)).trans ?_
  rw [shapeCast_self, shapeCast_self]
  refine (Ideal.matmul_plain_apply (M := 2048) (K := 1024) (N := 512) none _ b _ (row d y) z).trans ?_
  refine (congrArg (· + _) Ideal.ofBits_zero_f32).trans ((zero_add _).trans (Finset.sum_congr rfl fun k _ => congrArg (· * b (ix2 k z)) ?_))
  refine congrArg₂ max ((Ideal.matmul_plain_apply (M := 2048) (K := 512) (N := 1024) none X a _ (row d y) k).trans ?_) Ideal.ofBits_zero_f32
  exact (congrArg (· + _) Ideal.ofBits_zero_f32).trans (zero_add _)

/-- The same, as kept and -/
theorem kept_eq (X : FVec Ideal S2048x512 .bf16) (a : Vec Ideal S512x1024 .bf16) (b : Vec Ideal S1024x512 .bf16) : k0_pay6 (F := Ideal) X a b = k0_pay4 X a b :=
  shapeCast_self _ _
/-- as sent. -/
theorem sent_eq (X : FVec Ideal S2048x512 .bf16) (a : Vec Ideal S512x1024 .bf16) (b : Vec Ideal S1024x512 .bf16) :
    k0_pay5 (F := Ideal) X a b = k0_pay4 (F := Ideal) X a b :=
  shapeCast_self _ _

/-- The zero slab holds zero. -/
theorem zero_apply (y : Fin 64) (z : Fin 512) : k0_pay1 (F := Ideal) (ix3 (0 : Fin 1) y z) = (0 : EReal) := by
  unfold k0_pay1
  exact (shapeCast_ab_1ab_apply _ _ 0 y z).trans Ideal.ofBits_zero_bf16

/-- The reduction adds to a device's own slab what landed from its peers. -/
theorem reduce_apply (v : Vec Ideal S1x64x512 .f32) (l : Vec Ideal S32x64x512 .bf16) (y : Fin 64) (z : Fin 512) :
    k0_pay7 (F := Ideal) v l (ix3 (0 : Fin 1) y z) = (v (ix3 (0 : Fin 1) y z) + ∑ e : Fin 32, l (ix3 e y z) : EReal) := by
  unfold k0_pay7
  refine (shapeCast_ab_1ab_apply _ _ 0 y z).trans ?_
  refine congrArg₂ (fun (u w : EReal) => u + w) (shapeCast_1ab_ab_apply v _ y z) ?_
  refine (Ideal.multiReduction_add_single _ _ _ _ _ (ix2 y z)).trans (Finset.sum_congr rfl fun e _ => congrArg l ?_)
  funext ax
  match ax with
  | ⟨0, _⟩ => rfl
  | ⟨1, _⟩ => rfl
  | ⟨2, _⟩ => rfl

/-- The place of an element within its slab, by coordinates; -/
theorem low_ix3 (d : Fin 32) (y : Fin 64) (z : Fin 512) : low (ix3 d y z) = ix3 (0 : Fin 1) y z := by
  funext ax
  match ax with
  | ⟨0, _⟩ => rfl
  | ⟨1, _⟩ => rfl
  | ⟨2, _⟩ => rfl

/-- the element at a place. -/
theorem at3_ix3 (d : Fin 32) (u : Fin 1) (y : Fin 64) (z : Fin 512) : at3 d (ix3 u y z) = ix3 d y z := by
  funext ax
  match ax with
  | ⟨0, _⟩ => rfl
  | ⟨1, _⟩ => rfl
  | ⟨2, _⟩ => rfl

/-- A sum with one summand set to zero, and that summand added back. -/
theorem add_sum_others (d : Fin 32) (f : Fin 32 → EReal) : f d + ∑ e : Fin 32, (if e = d then 0 else f e) = ∑ e : Fin 32, f e := by
  rw [← Finset.add_sum_erase Finset.univ f (Finset.mem_univ d), ← Finset.add_sum_erase Finset.univ (fun e => if e = d then 0 else f e) (Finset.mem_univ d)]
  rw [if_pos rfl, zero_add]
  exact congrArg (f d + ·) (Finset.sum_congr rfl fun e he => if_neg (Finset.ne_of_mem_erase he))

section Value

variable (m : (ℓ : Loc nD τ sig) → Buf (Elt Ideal) ℓ)

/-- One layer of the kernel: the gathered activations after it are the sum of the devices' partial products. -/
theorem layer_apply (r : ℕ) (d : Fin 32) (y : Fin 64) (z : Fin 512) :
    XQ m (r + 1) (ix3 d y z) = ∑ e : Fin 32, layerAt (k0_pay3 (XQ m r)) (wi m r e) (wo m r e) (row d y) z := by
  refine Eq.trans ?_ (add_sum_others d fun e => layerAt (k0_pay3 (XQ m r)) (wi m r e) (wo m r e) (row d y) z)
  show k0_pay7 (slab (F := Ideal) d (pvOf m (XQ m r) r d)) (lvOf m (XQ m r) r d) (low (ix3 d y z)) = _
  rw [low_ix3, reduce_apply]
  refine congrArg₂ (fun (u w : EReal) => u + w) ?_ (Finset.sum_congr rfl fun e _ => ?_)
  · show pvOf m (XQ m r) r d (at3 d (ix3 0 y z)) = _
    rw [at3_ix3]; unfold pvOf; rw [kept_eq]; exact part_apply _ _ _ d y z
  · show (if e = d then k0_pay1 (F := Ideal) (low (ix3 e y z)) else svOf m (XQ m r) r e (at3 d (low (ix3 e y z)))) = _
    rw [low_ix3, at3_ix3]; unfold svOf; rw [sent_eq, zero_apply, part_apply]

/-- With the devices' weights the blocks of the whole weights, one layer of the kernel is one of the reference. -/
theorem layer_eq (r : ℕ) (A : FVec Ideal SW1 .bf16) (B : FVec Ideal SW2 .bf16)
    (hA : ∀ c : Fin 32, wi m r c = Layout.block ⟨2, ![512, 1024]⟩ SW1 1 32 c A) (hB : ∀ c : Fin 32, wo m r c = Layout.block ⟨2, ![1024, 512]⟩ SW2 0 32 c B) :
    k0_pay3 (XQ m (r + 1)) = refLayer (k0_pay3 (XQ m r)) A B := by
  funext i
  obtain ⟨p, z, rfl⟩ : ∃ (p : Fin 2048) (z : Fin 512), i = ix2 p z := ⟨i 0, i 1, eq_ix2 i⟩
  obtain ⟨d, y, rfl⟩ : ∃ d y, p = row d y := ⟨⟨p.val / 64, by omega⟩, ⟨p.val % 64, by omega⟩, Fin.ext (by show p.val = 64 * (p.val / 64) + p.val % 64; omega)⟩
  rw [flat_apply, layer_apply, refLayer_apply]
  refine layer_blocks _ A B _ _ (fun e j k => ?_) (fun e k z => ?_) _ z
  · rw [hA, Layout.block_apply]
    refine congrArg A (funext fun ax => ?_)
    match ax with
    | ⟨0, _⟩ => rfl
    | ⟨1, _⟩ => rfl
  · rw [hB, Layout.block_apply]
    refine congrArg B (funext fun ax => ?_)
    match ax with
    | ⟨0, _⟩ => rfl
    | ⟨1, _⟩ => rfl

/-- Before the first layer the gathered activations are the whole activations. -/
theorem start_eq (X : FVec Ideal ⟨2, ![2048, 512]⟩ .bf16) (hX : ∀ c : Fin 32, xstg m c = Layout.block ⟨2, ![64, 512]⟩ ⟨2, ![2048, 512]⟩ 0 32 c X) :
    k0_pay3 (XQ m 0) = X := by
  funext i
  obtain ⟨p, z, rfl⟩ : ∃ (p : Fin 2048) (z : Fin 512), i = ix2 p z := ⟨i 0, i 1, eq_ix2 i⟩
  obtain ⟨d, y, rfl⟩ : ∃ d y, p = row d y := ⟨⟨p.val / 64, by omega⟩, ⟨p.val % 64, by omega⟩, Fin.ext (by show p.val = 64 * (p.val / 64) + p.val % 64; omega)⟩
  rw [flat_apply]
  show k0_pay2 (xstg m d) (low (ix3 d y z)) = _
  rw [low_ix3]
  unfold k0_pay2
  refine (shapeCast_ab_1ab_apply _ _ 0 y z).trans ?_
  rw [shapeCast_self, hX, Layout.block_apply]
  refine congrArg X (funext fun ax => ?_)
  match ax with
  | ⟨0, _⟩ => exact Fin.ext (by show d.val * 64 + y.val = 64 * d.val + y.val; omega)
  | ⟨1, _⟩ => rfl

/-- Three layers. -/
theorem result_eq (X : FVec Ideal ⟨2, ![2048, 512]⟩ .bf16) (A0 A1 A2 : FVec Ideal SW1 .bf16) (B0 B1 B2 : FVec Ideal SW2 .bf16)
    (hX : ∀ c : Fin 32, xstg m c = Layout.block ⟨2, ![64, 512]⟩ ⟨2, ![2048, 512]⟩ 0 32 c X)
    (hA0 : ∀ c : Fin 32, wi m 0 c = Layout.block ⟨2, ![512, 1024]⟩ SW1 1 32 c A0) (hB0 : ∀ c : Fin 32, wo m 0 c = Layout.block ⟨2, ![1024, 512]⟩ SW2 0 32 c B0)
    (hA1 : ∀ c : Fin 32, wi m 1 c = Layout.block ⟨2, ![512, 1024]⟩ SW1 1 32 c A1) (hB1 : ∀ c : Fin 32, wo m 1 c = Layout.block ⟨2, ![1024, 512]⟩ SW2 0 32 c B1)
    (hA2 : ∀ c : Fin 32, wi m 2 c = Layout.block ⟨2, ![512, 1024]⟩ SW1 1 32 c A2) (hB2 : ∀ c : Fin 32, wo m 2 c = Layout.block ⟨2, ![1024, 512]⟩ SW2 0 32 c B2) :
    k0_pay17 (XQ m 3) = refLayer (refLayer (refLayer X A0 B0) A1 B1) A2 B2 := by
  show k0_pay3 (XQ m (2 + 1)) = _
  rw [layer_eq m 2 A2 B2 hA2 hB2, layer_eq m 1 A1 B1 hA1 hB1, layer_eq m 0 A0 B0 hA0 hB0, start_eq m X hX]

/-! ## The windows are the whole arrays -/

/-- What is staged is the array itself: the activations, -/
theorem xstg_eq (c : Dev nD) : xstg m c = m ((c : Thread nD τ).loc main_arg0) :=
  Memref.read_access_unit_zero (Elt Ideal) main_arg0 (funext fun _ => Nat.zero_mul _) (fun a => by fin_cases a <;> decide) _
/-- the first weight of the first layer, -/
theorem wi0_eq (c : Dev nD) : wi m 0 c = m ((c : Thread nD τ).loc main_arg1) :=
  Memref.read_access_unit_zero (Elt Ideal) main_arg1 (funext fun _ => Nat.zero_mul _) (fun a => by fin_cases a <;> decide) _
/-- of the second layer -/
theorem wi1_eq (c : Dev nD) : wi m 1 c = m ((c : Thread nD τ).loc main_arg2) :=
  Memref.read_access_unit_zero (Elt Ideal) main_arg2 (funext fun _ => Nat.zero_mul _) (fun a => by fin_cases a <;> decide) _
/-- and the third, -/
theorem wi2_eq (c : Dev nD) : wi m 2 c = m ((c : Thread nD τ).loc main_arg3) :=
  Memref.read_access_unit_zero (Elt Ideal) main_arg3 (funext fun _ => Nat.zero_mul _) (fun a => by fin_cases a <;> decide) _
/-- the second weight of the first layer, -/
theorem wo0_eq (c : Dev nD) : wo m 0 c = m ((c : Thread nD τ).loc main_arg4) :=
  Memref.read_access_unit_zero (Elt Ideal) main_arg4 (funext fun _ => Nat.zero_mul _) (fun a => by fin_cases a <;> decide) _
/-- of the second layer -/
theorem wo1_eq (c : Dev nD) : wo m 1 c = m ((c : Thread nD τ).loc main_arg5) :=
  Memref.read_access_unit_zero (Elt Ideal) main_arg5 (funext fun _ => Nat.zero_mul _) (fun a => by fin_cases a <;> decide) _
/-- and the third. -/
theorem wo2_eq (c : Dev nD) : wo m 2 c = m ((c : Thread nD τ).loc main_arg6) :=
  Memref.read_access_unit_zero (Elt Ideal) main_arg6 (funext fun _ => Nat.zero_mul _) (fun a => by fin_cases a <;> decide) _

/-- The output array after the run. -/
theorem final_eq (c : Dev nD) : finalA m c 7 = k0_pay17 (XQ m 3) := by
  unfold finalA
  rw [show cfg0.N = t0_0.val + 1 from rfl, (dats m 0 c).arrAt_succ (7 : Fin 8) t0_0, flush0_7, if_pos rfl]
  exact Memref.write_access_unit_zero_univ (Elt Ideal) main_v1 (off := fun a => (win0_7.index t0_0) a * main_v1.ty.shape.size a) (funext fun _ => Nat.zero_mul _) (fun a => by fin_cases a <;> decide) _ _

end Value
end Cert.KProof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem

/-- The kernel at the chip's floats: arguments kept, counters back at zero. -/
theorem frame_bits : Cert.quiescent_Kernel (hKernel := Cert.Kernel.Gen.facts) := fun m g _ =>
  Cert.KProof.run_frame_kernel (F := Bits) m g

/-- The kernel at exact numbers: the same. -/
theorem frame_ideal : Cert.quiescent_KernelIdeal (hKernelIdeal := Cert.KernelIdeal.Gen.facts) := fun m g _ =>
  Cert.KProof.run_frame (F := Ideal) m g

/-- The reference: the same, a run of host operations from counters at zero. -/
theorem frame_reference : Cert.quiescent_ReferenceIdeal (hReferenceIdeal := Cert.ReferenceIdeal.Gen.facts) := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- Over exact numbers the kernel, on every device, and the reference end with the same result: three layers, each the same sum. -/
theorem algebraic : Cert.algebraic_KernelIdeal_ReferenceIdeal (hKernelIdeal := Cert.KernelIdeal.Gen.facts) (hReferenceIdeal := Cert.ReferenceIdeal.Gen.facts) := by
  intro m g m' g' _ hin
  refine ⟨_, ?_, (θ_run Cert.ReferenceIdeal.defs _ _).mono (fun r h => h 0) (Cert.ReferenceIdeal.Value.run (F := Ideal) m' g')⟩
  refine (θ_run Cert.KernelIdeal.defs _ _).mono (fun r h c => ⟨?_, Cert.KProof.args_kept m r h.1 c⟩) (Cert.KProof.run_main (F := Ideal) m g)
  refine (h.1 c 7).trans ((Cert.KProof.final_eq m c).trans ?_)
  exact Cert.KProof.result_eq m _ _ _ _ _ _ _ (fun c => (Cert.KProof.xstg_eq m c).trans (hin c).1)
    (fun c => (Cert.KProof.wi0_eq m c).trans (hin c).2.1) (fun c => (Cert.KProof.wo0_eq m c).trans (hin c).2.2.2.2.1)
    (fun c => (Cert.KProof.wi1_eq m c).trans (hin c).2.2.1) (fun c => (Cert.KProof.wo1_eq m c).trans (hin c).2.2.2.2.2.1)
    (fun c => (Cert.KProof.wi2_eq m c).trans (hin c).2.2.2.1) (fun c => (Cert.KProof.wo2_eq m c).trans (hin c).2.2.2.2.2.2)

/-- Every claim of the certificate. -/
theorem claim : Cert.Claim := ⟨Cert.Kernel.Gen.facts, Cert.KernelIdeal.Gen.facts, Cert.ReferenceIdeal.Gen.facts, frame_bits, frame_ideal, frame_reference, trivial, algebraic⟩

end Cert.Proof

end
